-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x512 : Shape := ⟨2, ![512, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S2x128x512 .f32) (main_arg1 : FVec F S512x512 .f32) (main_arg2 : FVec F S512x512 .f32) (main_arg3 : FVec F S512x512 .f32) (main_arg4 : FVec F S512x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Pre_finite_ReferenceIdeal.lean ====
abbrev S2x128x512 : Shape := ⟨3, ![2, 128, 512]⟩
abbrev S512x2048 : Shape := ⟨2, ![512, 2048]⟩
abbrev S2048x512 : Shape := ⟨2, ![2048, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S2x128x512 .f32) (main_arg1 : FVec F S512x2048 .f32) (main_arg2 : FVec F S2048x512 .f32) (main_arg3 : FVec F S512x2048 .f32) (main_arg4 : FVec F S512x2048 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S512x2048 .f32 := Host.absf main_arg3
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  main_v13
-- ==== Kernel.lean ====
abbrev S2x128x512 : Shape := ⟨3, ![2, 128, 512]⟩
abbrev S512x512 : Shape := ⟨2, ![512, 512]⟩
abbrev S4x64x512 : Shape := ⟨3, ![4, 64, 512]⟩
abbrev S5 : Shape := ⟨1, ![5]⟩
abbrev S_ : Shape := ⟨0, ![]⟩
abbrev S4 : Shape := ⟨1, ![4]⟩
abbrev S1 : Shape := ⟨1, ![1]⟩
abbrev S256x512 : Shape := ⟨2, ![256, 512]⟩
abbrev S2x128x8x64 : Shape := ⟨4, ![2, 128, 8, 64]⟩
abbrev S2x8x128x64 : Shape := ⟨4, ![2, 8, 128, 64]⟩
abbrev S16x128x64 : Shape := ⟨3, ![16, 128, 64]⟩
abbrev S16x128x128 : Shape := ⟨3, ![16, 128, 128]⟩
abbrev S16x128 : Shape := ⟨2, ![16, 128]⟩
abbrev S16x128x1 : Shape := ⟨3, ![16, 128, 1]⟩
abbrev S64x512 : Shape := ⟨2, ![64, 512]⟩
abbrev S1x64x512 : Shape := ⟨3, ![1, 64, 512]⟩

abbrev nBuf : Space → Nat
  | .hbm => 6
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2x128x512, .bf16⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S4x64x512, .bf16⟩
  | .local _ .vmem, ⟨6, _⟩ => ⟨S4x64x512, .bf16⟩
  | .local _ .vmem, ⟨7, _⟩ => ⟨S4x64x512, .bf16⟩
  | .local _ .vmem, ⟨8, _⟩ => ⟨S2x128x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v14 : BitVec 32 := Scalar.addi v2 c1_i32_2
  let c4_i32_3 : BitVec 32 := 4#32
  let v15 : BitVec 32 := Scalar.remsi v14 c4_i32_3
  let c1_i32_5 : BitVec 32 := 1#32
  let v16 : BitVec 32 := Scalar.muli v15 c1_i32_5
  let v17 : BitVec 32 := Scalar.addi c0_i32_6 v16
  v17.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_7 : BitVec 32 := 2#32
  let v18 : BitVec 32 := Scalar.addi v2 c2_i32_7
  let c4_i32_8 : BitVec 32 := 4#32
  let v19 : BitVec 32 := Scalar.remsi v18 c4_i32_8
  let c1_i32_10 : BitVec 32 := 1#32
  let v20 : BitVec 32 := Scalar.muli v19 c1_i32_10
  let v21 : BitVec 32 := Scalar.addi c0_i32_11 v20
  v21.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_12 : BitVec 32 := 3#32
  let v22 : BitVec 32 := Scalar.addi v2 c3_i32_12
  let c4_i32_13 : BitVec 32 := 4#32
  let v23 : BitVec 32 := Scalar.remsi v22 c4_i32_13
  let c1_i32_15 : BitVec 32 := 1#32
  let v24 : BitVec 32 := Scalar.muli v23 c1_i32_15
  let v25 : BitVec 32 := Scalar.addi c0_i32_16 v24
  v25.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_40 : BitVec 32 := 0#32
  let v78 : BitVec 1 := Scalar.cmpi .eq v2 c0_i32_40
  let v79 : BitVec 32 := Scalar.extui v78
  let c0_i32_41 : BitVec 32 := 0#32
  let v80 : BitVec 1 := Scalar.cmpi .ne v79 c0_i32_41
  v80

def k0_dev4 : Nat :=
  let c0_i32_193 : BitVec 32 := 0#32
  let c1_i32_191 : BitVec 32 := 1#32
  let c1_i32_192 : BitVec 32 := 1#32
  let v268 : BitVec 32 := Scalar.muli c1_i32_191 c1_i32_192
  let v269 : BitVec 32 := Scalar.addi c0_i32_193 v268
  v269.toNat
def k0_dev5 : Nat :=
  let c0_i32_208 : BitVec 32 := 0#32
  let c2_i32_206 : BitVec 32 := 2#32
  let c1_i32_207 : BitVec 32 := 1#32
  let v284 : BitVec 32 := Scalar.muli c2_i32_206 c1_i32_207
  let v285 : BitVec 32 := Scalar.addi c0_i32_208 v284
  v285.toNat
def k0_dev6 : Nat :=
  let c0_i32_223 : BitVec 32 := 0#32
  let c3_i32_221 : BitVec 32 := 3#32
  let c1_i32_222 : BitVec 32 := 1#32
  let v300 : BitVec 32 := Scalar.muli c3_i32_221 c1_i32_222
  let v301 : BitVec 32 := Scalar.addi c0_i32_223 v300
  v301.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_42 : BitVec 32 := 1#32
  let v81 : BitVec 1 := Scalar.cmpi .eq v2 c1_i32_42
  let v82 : BitVec 32 := Scalar.extui v81
  let c0_i32_43 : BitVec 32 := 0#32
  let v83 : BitVec 1 := Scalar.cmpi .ne v82 c0_i32_43
  v83

def k0_dev7 : Nat :=
  let c0_i32_193 : BitVec 32 := 0#32
  let c2_i32_191 : BitVec 32 := 2#32
  let c1_i32_192 : BitVec 32 := 1#32
  let v268 : BitVec 32 := Scalar.muli c2_i32_191 c1_i32_192
  let v269 : BitVec 32 := Scalar.addi c0_i32_193 v268
  v269.toNat
def k0_dev8 : Nat :=
  let c0_i32_208 : BitVec 32 := 0#32
  let c3_i32_206 : BitVec 32 := 3#32
  let c1_i32_207 : BitVec 32 := 1#32
  let v284 : BitVec 32 := Scalar.muli c3_i32_206 c1_i32_207
  let v285 : BitVec 32 := Scalar.addi c0_i32_208 v284
  v285.toNat
def k0_dev9 : Nat :=
  let c0_i32_223 : BitVec 32 := 0#32
  let c0_i32_221 : BitVec 32 := 0#32
  let c1_i32_222 : BitVec 32 := 1#32
  let v300 : BitVec 32 := Scalar.muli c0_i32_221 c1_i32_222
  let v301 : BitVec 32 := Scalar.addi c0_i32_223 v300
  v301.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_44 : BitVec 32 := 2#32
  let v84 : BitVec 1 := Scalar.cmpi .eq v2 c2_i32_44
  let v85 : BitVec 32 := Scalar.extui v84
  let c0_i32_45 : BitVec 32 := 0#32
  let v86 : BitVec 1 := Scalar.cmpi .ne v85 c0_i32_45
  v86

def k0_dev10 : Nat :=
  let c0_i32_193 : BitVec 32 := 0#32
  let c3_i32_191 : BitVec 32 := 3#32
  let c1_i32_192 : BitVec 32 := 1#32
  let v268 : BitVec 32 := Scalar.muli c3_i32_191 c1_i32_192
  let v269 : BitVec 32 := Scalar.addi c0_i32_193 v268
  v269.toNat
def k0_dev11 : Nat :=
  let c0_i32_208 : BitVec 32 := 0#32
  let c0_i32_206 : BitVec 32 := 0#32
  let c1_i32_207 : BitVec 32 := 1#32
  let v284 : BitVec 32 := Scalar.muli c0_i32_206 c1_i32_207
  let v285 : BitVec 32 := Scalar.addi c0_i32_208 v284
  v285.toNat
def k0_dev12 : Nat :=
  let c0_i32_223 : BitVec 32 := 0#32
  let c1_i32_221 : BitVec 32 := 1#32
  let c1_i32_222 : BitVec 32 := 1#32
  let v300 : BitVec 32 := Scalar.muli c1_i32_221 c1_i32_222
  let v301 : BitVec 32 := Scalar.addi c0_i32_223 v300
  v301.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_46 : BitVec 32 := 3#32
  let v87 : BitVec 1 := Scalar.cmpi .eq v2 c3_i32_46
  let v88 : BitVec 32 := Scalar.extui v87
  let c0_i32_47 : BitVec 32 := 0#32
  let v89 : BitVec 1 := Scalar.cmpi .ne v88 c0_i32_47
  v89

def k0_dev13 : Nat :=
  let c0_i32_193 : BitVec 32 := 0#32
  let c0_i32_191 : BitVec 32 := 0#32
  let c1_i32_192 : BitVec 32 := 1#32
  let v268 : BitVec 32 := Scalar.muli c0_i32_191 c1_i32_192
  let v269 : BitVec 32 := Scalar.addi c0_i32_193 v268
  v269.toNat
def k0_dev14 : Nat :=
  let c0_i32_208 : BitVec 32 := 0#32
  let c1_i32_206 : BitVec 32 := 1#32
  let c1_i32_207 : BitVec 32 := 1#32
  let v284 : BitVec 32 := Scalar.muli c1_i32_206 c1_i32_207
  let v285 : BitVec 32 := Scalar.addi c0_i32_208 v284
  v285.toNat
def k0_dev15 : Nat :=
  let c0_i32_223 : BitVec 32 := 0#32
  let c2_i32_221 : BitVec 32 := 2#32
  let c1_i32_222 : BitVec 32 := 1#32
  let v300 : BitVec 32 := Scalar.muli c2_i32_221 c1_i32_222
  let v301 : BitVec 32 := Scalar.addi c0_i32_223 v300
  v301.toNat
def k0_off1 (d0 : Dev nD) (c1_i32_49 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_48 : BitVec 32 := 4#32
  let v90 : BitVec 32 := Scalar.addi v2 c4_i32_48
  let v91 : BitVec 32 := Scalar.subi v90 c1_i32_49
  let c4_i32_50 : BitVec 32 := 4#32
  let v92 : BitVec 32 := Scalar.remsi v91 c4_i32_50
  ![v92.toNat]
def k0_off2 (d0 : Dev nD) (c1_i32_49 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_48 : BitVec 32 := 4#32
  let v90 : BitVec 32 := Scalar.addi v2 c4_i32_48
  let v91 : BitVec 32 := Scalar.subi v90 c1_i32_49
  let c4_i32_50 : BitVec 32 := 4#32
  let v92 : BitVec 32 := Scalar.remsi v91 c4_i32_50
  let c0_i32_53 : BitVec 32 := 0#32
  let c0_i32_54 : BitVec 32 := 0#32
  ![v92.toNat, 0, 0]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v139 : Index := Scalar.indexCast v2
  let c0_84 : Index := 0#32
  let c0_85 : Index := 0#32
  ![v139.toNat, 0, 0]
def k0_off4 (d0 : Dev nD) (c1_i32_86 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v143 : BitVec 32 := Scalar.addi v2 c1_i32_86
  let c4_i32_87 : BitVec 32 := 4#32
  let v144 : BitVec 32 := Scalar.remsi v143 c4_i32_87
  ![v144.toNat]
def k0_off5 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_90 : BitVec 32 := 0#32
  let c0_i32_91 : BitVec 32 := 0#32
  ![v2.toNat, 0, 0]
def k0_dev16 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_86 : BitVec 32 := 1#32
  let v143 : BitVec 32 := Scalar.addi v2 c1_i32_86
  let c4_i32_87 : BitVec 32 := 4#32
  let v144 : BitVec 32 := Scalar.remsi v143 c4_i32_87
  let c1_i32_88 : BitVec 32 := 1#32
  let v145 : BitVec 32 := Scalar.muli v144 c1_i32_88
  let v146 : BitVec 32 := Scalar.addi c0_i32_89 v145
  v146.toNat
def k0_dev17 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_94 : BitVec 32 := 2#32
  let v155 : BitVec 32 := Scalar.addi v2 c2_i32_94
  let c4_i32_95 : BitVec 32 := 4#32
  let v156 : BitVec 32 := Scalar.remsi v155 c4_i32_95
  let c1_i32_96 : BitVec 32 := 1#32
  let v157 : BitVec 32 := Scalar.muli v156 c1_i32_96
  let v158 : BitVec 32 := Scalar.addi c0_i32_97 v157
  v158.toNat
def k0_dev18 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_102 : BitVec 32 := 3#32
  let v167 : BitVec 32 := Scalar.addi v2 c3_i32_102
  let c4_i32_103 : BitVec 32 := 4#32
  let v168 : BitVec 32 := Scalar.remsi v167 c4_i32_103
  let c1_i32_104 : BitVec 32 := 1#32
  let v169 : BitVec 32 := Scalar.muli v168 c1_i32_104
  let v170 : BitVec 32 := Scalar.addi c0_i32_105 v169
  v170.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_160 : BitVec 32 := 0#32
  let v232 : BitVec 1 := Scalar.cmpi .ne v2 c0_i32_160
  let v233 : BitVec 32 := Scalar.extui v232
  let c0_i32_161 : BitVec 32 := 0#32
  let v234 : BitVec 1 := Scalar.cmpi .ne v233 c0_i32_161
  v234

def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_189 : BitVec 32 := 0#32
  let c0_i32_190 : BitVec 32 := 0#32
  ![v2.toNat, 0, 0]
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_162 : BitVec 32 := 1#32
  let v235 : BitVec 1 := Scalar.cmpi .ne v2 c1_i32_162
  let v236 : BitVec 32 := Scalar.extui v235
  let c0_i32_163 : BitVec 32 := 0#32
  let v237 : BitVec 1 := Scalar.cmpi .ne v236 c0_i32_163
  v237

def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_189 : BitVec 32 := 0#32
  let c0_i32_190 : BitVec 32 := 0#32
  ![v2.toNat, 0, 0]
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_164 : BitVec 32 := 2#32
  let v238 : BitVec 1 := Scalar.cmpi .ne v2 c2_i32_164
  let v239 : BitVec 32 := Scalar.extui v238
  let c0_i32_165 : BitVec 32 := 0#32
  let v240 : BitVec 1 := Scalar.cmpi .ne v239 c0_i32_165
  v240

def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_189 : BitVec 32 := 0#32
  let c0_i32_190 : BitVec 32 := 0#32
  ![v2.toNat, 0, 0]
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_166 : BitVec 32 := 3#32
  let v241 : BitVec 1 := Scalar.cmpi .ne v2 c3_i32_166
  let v242 : BitVec 32 := Scalar.extui v241
  let c0_i32_167 : BitVec 32 := 0#32
  let v243 : BitVec 1 := Scalar.cmpi .ne v242 c0_i32_167
  v243

def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_189 : BitVec 32 := 0#32
  let c0_i32_190 : BitVec 32 := 0#32
  ![v2.toNat, 0, 0]
-- ==== ReferenceIdeal.lean ====
abbrev S2x128x512 : Shape := ⟨3, ![2, 128, 512]⟩
abbrev S512x2048 : Shape := ⟨2, ![512, 2048]⟩
abbrev S2048x512 : Shape := ⟨2, ![2048, 512]⟩
abbrev S2x128x2048 : Shape := ⟨3, ![2, 128, 2048]⟩
abbrev S2x128x32x64 : Shape := ⟨4, ![2, 128, 32, 64]⟩
abbrev S_ : Shape := ⟨0, ![]⟩
abbrev S2x32x128x1 : Shape := ⟨4, ![2, 32, 128, 1]⟩
abbrev S2x32x128x128 : Shape := ⟨4, ![2, 32, 128, 128]⟩
abbrev S2x32x128 : Shape := ⟨3, ![2, 32, 128]⟩
abbrev S2x128x32x1 : Shape := ⟨4, ![2, 128, 32, 1]⟩
abbrev S2x32x64x128 : Shape := ⟨4, ![2, 32, 64, 128]⟩

abbrev nBuf : Space → Nat
  | .hbm => 47
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x2048, .f32⟩
  | .hbm, ⟨2, _⟩ => ⟨S2048x512, .f32⟩
  | .hbm, ⟨3, _⟩ => ⟨S512x2048, .f32⟩
  | .hbm, ⟨4, _⟩ => ⟨S512x2048, .f32⟩
  | .hbm, ⟨5, _⟩ => ⟨S2x128x2048, .f32⟩
  | .hbm, ⟨6, _⟩ => ⟨S2x128x32x64, .f32⟩
  | .hbm, ⟨7, _⟩ => ⟨S2x128x2048, .f32⟩
  | .hbm, ⟨8, _⟩ => ⟨S2x128x32x64, .f32⟩
  | .hbm, ⟨9, _⟩ => ⟨S2x128x2048, .f32⟩
  | .hbm, ⟨10, _⟩ => ⟨S2x128x32x64, .f32⟩
  | .hbm, ⟨11, _⟩ => ⟨S_, .f32⟩
  | .hbm, ⟨12, _⟩ => ⟨S2x128x32x64, .f32⟩
  | .hbm, ⟨13, _⟩ => ⟨S_, .f32⟩
  | .hbm, ⟨14, _⟩ => ⟨S2x32x128x1, .f32⟩
  | .hbm, ⟨15, _⟩ => ⟨S_, .f32⟩
  | .hbm, ⟨16, _⟩ => ⟨S2x32x128x1, .f32⟩
  | .hbm, ⟨17, _⟩ => ⟨S2x32x128x128, .f32⟩
  | .hbm, ⟨18, _⟩ => ⟨S_, .f32⟩
  | .hbm, ⟨19, _⟩ => ⟨S2x32x128x128, .f32⟩
  | .hbm, ⟨20, _⟩ => ⟨S2x32x128x128, .f32⟩
  | .hbm, ⟨21, _⟩ => ⟨S_, .f32⟩
  | .hbm, ⟨22, _⟩ => ⟨S2x32x128, .f32⟩
  | .hbm, ⟨23, _⟩ => ⟨S2x32x128x1, .f32⟩
  | .hbm, ⟨24, _⟩ => ⟨S2x32x128x1, .f32⟩
  | .hbm, ⟨25, _⟩ => ⟨S2x32x128x1, .f32⟩
  | .hbm, ⟨26, _⟩ => ⟨S2x32x128x1, .f32⟩
  | .hbm, ⟨27, _⟩ => ⟨S2x32x128x128, .f32⟩
  | .hbm, ⟨28, _⟩ => ⟨S2x32x128x128, .f32⟩
  | .hbm, ⟨29, _⟩ => ⟨S2x32x128x128, .f32⟩
  | .hbm, ⟨30, _⟩ => ⟨S2x32x128x1, .f32⟩
  | .hbm, ⟨31, _⟩ => ⟨S_, .f32⟩
  | .hbm, ⟨32, _⟩ => ⟨S2x32x128, .f32⟩
  | .hbm, ⟨33, _⟩ => ⟨S2x32x128x1, .f32⟩
  | .hbm, ⟨34, _⟩ => ⟨S2x32x128x1, .f32⟩
  | .hbm, ⟨35, _⟩ => ⟨S2x128x32x1, .f32⟩
  | .hbm, ⟨36, _⟩ => ⟨S2x128x32x64, .f32⟩
  | .hbm, ⟨37, _⟩ => ⟨S2x128x32x64, .f32⟩
  | .hbm, ⟨38, _⟩ => ⟨S2x32x64x128, .f32⟩
  | .hbm, ⟨39, _⟩ => ⟨S2x128x32x64, .f32⟩
  | .hbm, ⟨40, _⟩ => ⟨S2x128x32x64, .f32⟩
  | .hbm, ⟨41, _⟩ => ⟨S2x128x32x1, .f32⟩
  | .hbm, ⟨42, _⟩ => ⟨S2x128x32x64, .f32⟩
  | .hbm, ⟨43, _⟩ => ⟨S2x128x32x64, .f32⟩
  | .hbm, ⟨44, _⟩ => ⟨S2x128x2048, .f32⟩
  | .hbm, ⟨45, _⟩ => ⟨S2x128x512, .f32⟩
  | .hbm, ⟨46, _⟩ => ⟨S2x128x512, .bf16⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.Protocol.lean ====
/-
# The exchange's protocol

Every device of the ring of four computes its partial attention output, cuts its 256 rows into four chunks of 64 rows, sends
chunk `s` to device `s` (reduce-scatter), adds the four chunks it receives and sends the sum to every peer (all-gather).
This module names the semaphores, the slots and their contents, and states the protocol as a schedule of rounds: which
device pays which unit on which semaphore, and which buffer elements go with it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds library's copy of this exchange: duties are named by devices. -/
abbrev UB : Type := URounds (GSem nD τ sig) (Dev nD)
/-- The certificate's algebra: the pipeline's copy, the exchange's, and the local transfers' counters. -/
abbrev UU : Type := UR sig nD τ × (UB × Counters)

local notation "𝕄" => MT nD τ sig Unit (Elt F) ℕ UU ℕ

/-- Where the pipeline's copy sits. -/
abbrev EP : Emb (UR sig nD τ) (MT nD τ sig Unit (Elt F) ℕ UU ℕ) := embL
/-- Where the exchange's copy sits. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

/-- The exchange's copy lies in the part of the state that invariants may speak of. -/
instance ER_landsIn : (ER : Emb UB 𝕄).LandsIn (upEmb : UEmb _ 𝕄) := by unfold ER; infer_instance

variable (m : (ℓ : Loc nD τ sig) → Buf (Elt F) ℓ)

/-! ## Devices and semaphores -/

/-- The device `k` places after `c` on the ring. -/
abbrev peer (k c : Dev nD) : Dev nD := ⟨(c.val + k.val) % 4, Nat.mod_lt _ (by decide)⟩

/-- The runtime's barrier semaphore. -/
abbrev barS : Sem sig := (SemArray.scalar (sig.barrier 0 rfl) : Sems sig S_).sem
/-- The DMA semaphore of slot `s` in family `f`: 0 and 1 the reduce-scatter's send and receive semaphores, 2 and 3 the all-gather's. -/
abbrev sq (f : Fin 4) (s : Dev nD) : DmaSem sig := ⟨6 + 4 * f.val + s.val, by have := f.isLt; have h : s.val < 4 := s.isLt; show _ < 22; omega⟩

/-- A protocol semaphore of a device: the barrier, or slot `s` of family `f`. -/
abbrev Kd : Type := Unit ⊕ (Fin 4 × Dev nD)
/-- Where it lies. -/
abbrev smOf : Kd → SemLoc sig
  | .inl _ => .reg barS
  | .inr (f, s) => .dma (sq f s)
/-- Which protocol semaphore a semaphore is, if any. -/
def kdOf : SemLoc sig → Option Kd
  | .reg _ => some (.inl ())
  | .dma q => if 6 ≤ q.val then some (.inr (⟨(q.val - 6) / 4 % 4, Nat.mod_lt _ (by decide)⟩, ⟨(q.val - 6) % 4, Nat.mod_lt _ (by decide)⟩)) else none

/-- A protocol semaphore is recognised from its place. -/
theorem kdOf_smOf (k : Kd) : kdOf (smOf k) = some k := by revert k; decide

/-- A protocol semaphore of a device, among all semaphores. -/
abbrev kcell (ck : Dev nD × Kd) : GSem nD τ sig := ((ck.1 : Thread nD τ), smOf ck.2)
/-- Device `c`'s barrier. -/
abbrev barCell (c : Dev nD) : GSem nD τ sig := ((c : Thread nD τ), .reg barS)
/-- Device `c`'s semaphore for slot `s` in family `f`. -/
abbrev dCell (f : Fin 4) (s c : Dev nD) : GSem nD τ sig := ((c : Thread nD τ), .dma (sq f s))

/-! ## Slots -/

/-- Slot `s` of a buffer of four 64 × 512 blocks. -/
abbrev slotR (s : Dev nD) : Rect S4x64x512 :=
  Rect.unit (s := S4x64x512) ![s.val, 0, 0] S1x64x512.size (by revert s; decide)
/-- The indices of slot `s`. -/
abbrev slotSet (s : Dev nD) : Finset S4x64x512.Idx := (slotR s).set

/-- An index lies in slot `s` when its first coordinate is `s`. -/
theorem mem_slot (s : Dev nD) (i : S4x64x512.Idx) : i ∈ slotSet s ↔ (i 0).val = s.val := by
  rw [Rect.mem_set_unit]
  constructor
  · intro h
    have := h 0
    simp only [Matrix.cons_val_zero] at this
    have h2 : S1x64x512.size 0 = 1 := rfl
    omega
  · intro h a
    have h1 := (i a).isLt
    match a with
    | ⟨0, _⟩ => show s.val ≤ (i 0).val ∧ (i 0).val < s.val + 1; omega
    | ⟨1, _⟩ => exact ⟨Nat.zero_le _, by show (i 1).val < 0 + 64; have : (i 1).val < 64 := (i 1).isLt; omega⟩
    | ⟨2, _⟩ => exact ⟨Nat.zero_le _, by show (i 2).val < 0 + 512; have : (i 2).val < 512 := (i 2).isLt; omega⟩

/-- Two slots share no index. -/
theorem slot_disjoint (s s' : Dev nD) (h : s ≠ s') : Disjoint (slotSet s) (slotSet s') := by
  rw [Finset.disjoint_left]; intro i hi hi'
  exact h (Fin.ext (((mem_slot s i).mp hi).symm.trans ((mem_slot s' i).mp hi')))

/-- The four slots are the whole buffer. -/
theorem slot_cover : Finset.univ.biUnion slotSet = Finset.univ := by
  ext i; simp only [Finset.mem_biUnion, Finset.mem_univ, true_and, iff_true]
  exact ⟨i 0, (mem_slot _ i).mpr rfl⟩

/-! ## Contents -/

/-- The contents of one slot. -/
abbrev SlotVec (F : FTy → Type) : Type := FVec F S1x64x512 .bf16
/-- The contents of a buffer of four slots. -/
abbrev BufVec (F : FTy → Type) : Type := (cc0_scratch5 : Ref sig .tc).ty.Contents (Elt F)

/-- An index of the four-slot buffer read inside its slot. -/
def inSlot (i : S4x64x512.Idx) : S1x64x512.Idx := fun a => match a with
  | ⟨0, _⟩ => (0 : Fin 1)
  | ⟨1, _⟩ => i 1
  | ⟨2, _⟩ => i 2

/-- The four-slot buffer that holds `v s` in slot `s`. -/
def slots (v : Dev nD → SlotVec F) : BufVec F := fun i => v (i 0) (inSlot i)

/-- Chunk `s` of the product of `a` (256 × 512) and `w`: its rows `64 s … 64 s + 63`, rounded to bf16. -/
def chunkOf (s : Dev nD) (a : FVec F S256x512 .bf16) (w : FVec F S512x512 .bf16) : SlotVec F :=
  shapeCast S1x64x512 (truncf .bf16 (matmul dot_S64x512_S512x512_S64x512_1_0_0_1_n_n none
    (extractStridedSlice S64x512 ![64 * s.val, 0] a (by revert s; decide)) w (constant S64x512 .f32 0x00000000#32)) (by decide)) (by decide)

/-- Device `c`'s `x`, -/
abbrev xA (c : Dev nD) : Vec F S2x128x512 .f32 := m ((c : Thread nD τ).loc main_arg0)
/-- its columns of `Wq`, -/
abbrev wqA (c : Dev nD) : Vec F S512x512 .f32 := m ((c : Thread nD τ).loc main_arg1)
/-- its rows of `Wo`, -/
abbrev woA (c : Dev nD) : Vec F S512x512 .f32 := m ((c : Thread nD τ).loc main_arg2)
/-- its columns of `Wk`, -/
abbrev wkA (c : Dev nD) : Vec F S512x512 .f32 := m ((c : Thread nD τ).loc main_arg3)
/-- and its columns of `Wv`. -/
abbrev wvA (c : Dev nD) : Vec F S512x512 .f32 := m ((c : Thread nD τ).loc main_arg4)

/-- Device `c`'s attention output for its eight heads, 256 rows of 512, rounded to bf16. -/
def avA (c : Dev nD) : FVec F S256x512 .bf16 :=
  k0_pay14 (k0_pay10 (xA m c) (wvA m c)) (k0_pay12 (xA m c) (wqA m c) (wkA m c)) (k0_pay13 (xA m c) (wqA m c) (wkA m c))
    (constant S16x128x64 .f32 0x00000000#32)

/-- Chunk `s` of device `c`'s partial output. -/
def chunk (c s : Dev nD) : SlotVec F := chunkOf s (avA m c) (k0_pay15 (woA m c))

/-- What the devices' chunks `s` add up to, rounded to bf16. -/
def red (s : Dev nD) : SlotVec F :=
  k0_pay34 (k0_pay32 (chunk m 0 s)) (k0_pay33 (chunk m 1 s)) (chunk m 2 s) (chunk m 3 s)

/-- Device `c`'s send buffer once every chunk is stored: chunk `s` in slot `s`. -/
def sbC (c : Dev nD) : BufVec F := slots fun s => chunk m c s
/-- Device `c`'s landing buffer once every chunk has arrived: device `s`'s chunk `c` in slot `s`. -/
def rsC (c : Dev nD) : BufVec F := slots fun s => chunk m s c
/-- The gather buffer once every sum has arrived: sum `s` in slot `s`, the same on every device. -/
def agC : BufVec F := slots fun s => red m s

/-- Slot `s` of device `c`'s send buffer at contents `f`. -/
def sbPt (c s : Dev nD) (f : BufVec F) : sProp 𝕄 := ((c : Thread nD τ).loc cc0_scratch5) ↦[slotSet s]{fullShare} f
/-- The same for the landing buffer, -/
def rsPt (c s : Dev nD) (f : BufVec F) : sProp 𝕄 := ((c : Thread nD τ).loc cc0_scratch6) ↦[slotSet s]{fullShare} f
/-- and for the gather buffer, at share `q`. -/
def agPt (c s : Dev nD) (q : PosShare TreeShare) (f : BufVec F) : sProp 𝕄 := ((c : Thread nD τ).loc cc0_scratch7) ↦[slotSet s]{q} f
/-- The share of its own slot a device lends to the transfer to device `t`. -/
def lend (t : Dev nD) : PosShare TreeShare := ShareLeaves.leaf 2 fullShare t

/-! ## The schedule -/

/-- A slot's credit. -/
abbrev N : ℕ := (((Memref.whole cc0_scratch6 : Memref sig .tc .vmem S4x64x512 .bf16).slice (slotR 0) (fun _ => rfl)).squeeze S64x512
  squeezes_S1x64x512_S64x512).view.dmaCredit
/-- It is positive. -/
theorem N_pos : 0 < N := View.dmaCredit_pos _ (by decide)

/-- The duties of a device's semaphore: every peer pays its barrier; slot `s`'s semaphore is credited once if `s` is a peer. -/
def dutiesOf (c : Dev nD) : Kd → Finset (Dev nD)
  | .inl _ => Finset.univ.erase c
  | .inr (_, s) => if s = c then ∅ else {c}

/-- What comes with a duty: with peer `d`'s barrier unit, the slots of `d`'s landing and gather buffers that `c` will fill;
    with a send's completion, what was lent; with an arrival, the slot filled. -/
def payOf (c d : Dev nD) : Kd → sProp 𝕄
  | .inl _ => iprop((∃ f, rsPt d c f) ∗ ∃ f, agPt d c fullShare f)
  | .inr (f, s) =>
    match f with
    | 0 => sbPt c s (sbC m c)
    | 1 => rsPt c s (rsC m c)
    | 2 => agPt c c (lend s) (agC m)
    | 3 => agPt c s fullShare (agC m)

/-- What comes with a duty may be kept in an invariant. -/
instance payOf_storable (c d : Dev nD) (k : Kd) : BI.Storable (upEmb : UEmb _ 𝕄) (payOf m c d k) := by
  unfold payOf rsPt agPt sbPt
  split
  · infer_instance
  · split <;> infer_instance

/-- The protocol: one round, in which the semaphores have the duties above. -/
def Rd : Rounds.Schedule (GSem nD τ sig) (Dev nD) 𝕄 where
  duties g r := if r = 0 ∧ g.1.2 = .tc then (match kdOf g.2 with | some k => dutiesOf g.1.1 k | none => ∅) else ∅
  unitless _ := False
  amount g _ _ := match kdOf g.2 with | some (.inl _) => 1 | _ => N
  payload g _ d := match kdOf g.2 with | some k => payOf m g.1.1 d k | none => iprop(emp)
  amount_pos g _ _ _ := by
    split
    · exact Nat.one_pos
    · exact N_pos

/-- So may every payload of the protocol. -/
instance Rd_storable (g : GSem nD τ sig) (r : ℕ) (d : Dev nD) : BI.Storable (upEmb : UEmb _ 𝕄) ((Rd m).payload g r d) := by
  show BI.Storable upEmb (match kdOf g.2 with | some k => payOf m g.1.1 d k | none => iprop(emp))
  split <;> infer_instance

section Sched
variable (c : Dev nD)

/-- In its one round a protocol semaphore has its duties, -/
theorem duties_eq (k : Kd) : (Rd m).duties (kcell (c, k)) 0 = dutiesOf c k := by
  dsimp only [Rd]; rw [if_pos ⟨rfl, rfl⟩, kdOf_smOf]
/-- and no semaphore has any later. -/
theorem duties_later (g : GSem nD τ sig) : ∀ r, 1 ≤ r → (Rd m).duties g r = ∅ :=
  fun r hr => by dsimp only [Rd]; rw [if_neg fun h => by omega]
/-- What comes with a duty of a protocol semaphore. -/
theorem payload_eq (k : Kd) (d : Dev nD) : (Rd m).payload (kcell (c, k)) 0 d = payOf m c d k := by
  dsimp only [Rd]; rw [kdOf_smOf]
/-- A duty on a barrier is one unit. -/
theorem amount_bar (d : Dev nD) : (Rd m).amount (barCell c) 0 d = 1 := by
  dsimp only [Rd]; rw [show kdOf (.reg barS) = some (.inl ()) from rfl]
/-- A duty on a slot's semaphore is a slot's credit. -/
theorem amount_dma (f : Fin 4) (s d : Dev nD) : (Rd m).amount (dCell f s c) 0 d = N := by
  dsimp only [Rd]; rw [show kdOf (.dma (sq f s)) = some (.inr (f, s)) from kdOf_smOf (.inr (f, s))]

/-- Every peer has a duty on a device's barrier. -/
theorem duties_bar : (Rd m).duties (barCell c) 0 = Finset.univ.erase c := duties_eq m c (.inl ())
/-- The semaphore of a peer's slot has one duty. -/
theorem duties_dma (f : Fin 4) (s : Dev nD) (h : s ≠ c) : (Rd m).duties (dCell f s c) 0 = {c} :=
  (duties_eq m c (.inr (f, s))).trans (if_neg h)
/-- The semaphore of a device's own slot has none. -/
theorem duties_own (f : Fin 4) : ∀ r, 0 ≤ r → (Rd m).duties (dCell f c c) r = ∅ := fun r _ => by
  rcases Nat.eq_zero_or_pos r with rfl | h
  · exact (duties_eq m c (.inr (f, c))).trans (if_pos rfl)
  · exact duties_later m _ r h

/-- A peer has a duty on the barrier. -/
theorem mem_bar (d : Dev nD) (h : d ≠ c) : d ∈ (Rd m).duties (barCell c) 0 := by
  rw [duties_bar]; exact Finset.mem_erase.mpr ⟨h, Finset.mem_univ _⟩
/-- The duty on a peer's slot's semaphore goes by the device's own name. -/
theorem mem_dma (f : Fin 4) (s : Dev nD) (h : s ≠ c) : c ∈ (Rd m).duties (dCell f s c) 0 := by
  rw [duties_dma m c f s h]; exact Finset.mem_singleton_self _

/-- A device's barrier waits for three units. -/
theorem expect_bar : (Rd m).expect (barCell c) 0 = 3 := by
  unfold Schedule.expect Schedule.amountOf
  rw [duties_bar, Finset.sum_congr rfl fun d _ => amount_bar m c d, Finset.sum_const, smul_eq_mul, Nat.mul_one]
  revert c; decide
/-- The semaphore of a peer's slot waits for a slot's credit. -/
theorem expect_dma (f : Fin 4) (s : Dev nD) (h : s ≠ c) : (Rd m).expect (dCell f s c) 0 = N := by
  unfold Schedule.expect Schedule.amountOf; rw [duties_dma m c f s h, Finset.sum_singleton, amount_dma]

/-- The devices other than `c` are its three peers. -/
theorem peers (c : Dev nD) : Finset.univ.erase c = {peer 1 c, peer 2 c, peer 3 c} := by revert c; decide

/-- What a device's barrier round brings: the slots it fills on its three peers. -/
theorem rest_bar : bigSep ((Rd m).duties (barCell c) 0 \ ∅) (fun d => (Rd m).payload (barCell c) 0 d)
    = iprop(payOf m c (peer 1 c) (.inl ()) ∗ payOf m c (peer 2 c) (.inl ()) ∗ payOf m c (peer 3 c) (.inl ())) := by
  rw [Finset.sdiff_empty, duties_bar, bigSep_congr (fun d _ => payload_eq m c (.inl ()) d), peers,
    bigSep_insert (by revert c; decide), bigSep_insert (by revert c; decide), bigSep_singleton]
  rfl
/-- What a slot's semaphore's round brings. -/
theorem rest_dma (f : Fin 4) (s : Dev nD) (h : s ≠ c) :
    bigSep ((Rd m).duties (dCell f s c) 0 \ ∅) (fun d => (Rd m).payload (dCell f s c) 0 d) = payOf m c c (.inr (f, s)) := by
  rw [Finset.sdiff_empty, duties_dma m c f s h, bigSep_singleton]
  exact payload_eq m c (.inr (f, s)) c

end Sched

/-! ## What each device owes at launch; the levels -/

/-- The arrivals device `c` owes its peers: its sum in slot `c` of their gather buffers; -/
def owe3 (c : Dev nD) : CellTallies nD τ sig Unit :=
  tallyAt (dCell 3 c (peer 3 c)) () N + tallyAt (dCell 3 c (peer 2 c)) () N + tallyAt (dCell 3 c (peer 1 c)) () N
/-- and its chunk in slot `c` of their landing buffers; -/
def owe1 (c : Dev nD) : CellTallies nD τ sig Unit :=
  owe3 c + tallyAt (dCell 1 c (peer 3 c)) () N + tallyAt (dCell 1 c (peer 2 c)) () N + tallyAt (dCell 1 c (peer 1 c)) () N
/-- and a unit on each peer's barrier. -/
def oweAll (c : Dev nD) : CellTallies nD τ sig Unit :=
  owe1 c + tallyAt (barCell (peer 3 c)) () 1 + tallyAt (barCell (peer 2 c)) () 1 + tallyAt (barCell (peer 1 c)) () 1

/-- The levels kept: one for each semaphore of a TensorCore. -/
def L (g : GSem nD τ sig) : Finset Unit := if g.1.2 = .tc then {()} else ∅
/-- The barrier at level 1, the landings at 2, the gathers' at 3, every other semaphore at 0. -/
def lv (g : GSem nD τ sig) (_ : Unit) : ℕ := match kdOf g.2 with
  | some (.inl _) => 1
  | some (.inr (f, _)) => if f = 1 then 2 else if f = 3 then 3 else 0
  | none => 0

/-- Off the TensorCores none is kept, -/
theorem L_of_ne (g : GSem nD τ sig) (h : g.1.2 ≠ .tc) : L g = ∅ := if_neg h
/-- on them one for each. -/
theorem L_tc (c : Dev nD) (sm : SemLoc sig) : L ((c : Thread nD τ), sm) = {()} := if_pos rfl
/-- The barrier is at level 1. -/
theorem lv_bar (c : Dev nD) : lv (barCell c) () = 1 := rfl
/-- The level of a slot's semaphore, by its family. -/
theorem lv_dma (f : Fin 4) (s c : Dev nD) : lv (dCell f s c) () = if f = 1 then 2 else if f = 3 then 3 else 0 := by
  unfold lv; rw [show kdOf (.dma (sq f s)) = some (.inr (f, s)) from kdOf_smOf (.inr (f, s))]

/-- A debt owed on TensorCores' semaphores above level `b` only. -/
def Above (b : ℕ) (O : CellTallies nD τ sig Unit) : Prop := ∀ (g : GSem nD τ sig) (u : Unit), 0 < O g u → g.1.2 = .tc ∧ b < lv g u

/-- Owing nothing is owing above any level. -/
theorem Above.zero (b : ℕ) : Above b 0 := fun g u h => absurd h (Nat.lt_irrefl 0)
/-- Owing on one semaphore above level `b` is owing above `b`. -/
theorem Above.tally {b : ℕ} {c : Dev nD} {sm : SemLoc sig} {n : ℕ} (h : b < lv ((c : Thread nD τ), sm) ()) :
    Above b (tallyAt ((c : Thread nD τ), sm) () n) := fun g u hg => by
  rw [tallyAt_apply] at hg
  by_cases h' : g = ((c : Thread nD τ), sm) ∧ u = ()
  · rw [h'.1]; exact ⟨rfl, h⟩
  · rw [if_neg h'] at hg; exact absurd hg (Nat.lt_irrefl 0)
/-- Two debts above `b` are together above `b`. -/
theorem Above.add {b : ℕ} {O O' : CellTallies nD τ sig Unit} (h : Above b O) (h' : Above b O') : Above b (O + O') := fun g u hg => by
  rw [Pi.add_apply, Finsupp.add_apply] at hg
  rcases Nat.eq_zero_or_pos (O g u) with h0 | h0
  · rw [h0, Nat.zero_add] at hg; exact h' g u hg
  · exact h g u h0

/-- A gather's arrival is owed above level 2, -/
theorem above_ag (k s : Dev nD) : Above 2 (tallyAt (dCell 3 s k) () N) := Above.tally (by rw [lv_dma]; decide)
/-- a chunk's above level 1, -/
theorem above_rs (k s : Dev nD) : Above 1 (tallyAt (dCell 1 s k) () N) := Above.tally (by rw [lv_dma]; decide)
/-- a barrier unit above level 0. -/
theorem above_bar (k : Dev nD) : Above 0 (tallyAt (barCell k) () 1) := Above.tally (by rw [lv_bar]; decide)
/-- A debt above a level is above every lower one. -/
theorem Above.mono {b b' : ℕ} {O : CellTallies nD τ sig Unit} (h : Above b O) (hb : b' ≤ b) : Above b' O :=
  fun g u hg => ⟨(h g u hg).1, Nat.lt_of_le_of_lt hb (h g u hg).2⟩
/-- The sums a device owes are owed above level 2, -/
theorem above_owe3 (c : Dev nD) : Above 2 (owe3 c) := ((above_ag _ _).add (above_ag _ _)).add (above_ag _ _)
/-- the sums and chunks above level 1, -/
theorem above_owe1 (c : Dev nD) : Above 1 (owe1 c) :=
  ((((above_owe3 c).mono (by decide)).add (above_rs _ _)).add (above_rs _ _)).add (above_rs _ _)
/-- and all it owes above level 0. -/
theorem above_oweAll (c : Dev nD) : Above 0 (oweAll c) :=
  ((((above_owe1 c).mono (by decide)).add (above_bar _)).add (above_bar _)).add (above_bar _)

/-- A device that owes above a semaphore's level may wait on the semaphore. -/
theorem mayWait (c : Dev nD) (sm : SemLoc sig) {O : CellTallies nD τ sig Unit} (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by
      unfold L; rw [if_pos (h g u hg).1]; exact Finset.mem_singleton_self _)
    (fun p hp => by rw [Finset.mem_singleton.mp hp])
    (fun g u hg => (h g u hg).2)

end Cert.Ring
-- ==== Proof.Steps.lean ====
/-
# One step of the exchange at a time

For each operation of the kernel that touches a slot or a semaphore of the exchange, at a device `c` and a slot left
symbolic: what it needs and what it leaves.
-/
module

public import proofs.«01_k».proof.Proof.Protocol

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop needs a measure. -/
abbrev 𝒱₀ : Variants := Variants.none

/-- The weakest precondition of a piece `p` of device `c`'s body. -/
abbrev wpB (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Slots through the memrefs -/

/-- Every index of slot `s` is the rectangle's image of its own part inside the slot. -/
theorem slot_emb (s : Dev nD) (i : S4x64x512.Idx) (h : i ∈ slotSet s) : (slotR s).emb (inSlot i) = i := by
  have h0 := (mem_slot s i).mp h
  refine funext fun a => Fin.ext ?_
  match a with
  | ⟨0, _⟩ => show s.val + 1 * 0 = (i 0).val; omega
  | ⟨1, _⟩ => show 0 + 1 * (i 1).val = (i 1).val; omega
  | ⟨2, _⟩ => show 0 + 1 * (i 2).val = (i 2).val; omega

/-- An index of a slot, put in slot `s`, reads back as itself. -/
theorem inSlot_emb (s : Dev nD) (x : S1x64x512.Idx) : inSlot ((slotR s).emb x) = x := by
  refine funext fun a => Fin.ext ?_
  match a with
  | ⟨0, _⟩ => show 0 = (x 0).val; have : (x 0).val < 1 := (x 0).isLt; omega
  | ⟨1, _⟩ => show 0 + 1 * (x 1).val = (x 1).val; omega
  | ⟨2, _⟩ => show 0 + 1 * (x 2).val = (x 2).val; omega
/-- An index put in slot `s` has first coordinate `s`. -/
theorem emb_zero (s : Dev nD) (x : S1x64x512.Idx) : (slotR s).emb x 0 = s := by
  refine Fin.ext ?_
  show s.val + 1 * (x 0).val = s.val
  have : (x 0).val < 1 := (x 0).isLt; omega

/-- Slot `s` of a buffer that holds `v s` in each slot reads `v s`. -/
theorem slots_emb (v : Dev nD → SlotVec F) (s : Dev nD) (x : S1x64x512.Idx) : slots v ((slotR s).emb x) = v s x := by
  unfold slots; rw [emb_zero, inSlot_emb]

/-- Slot `s` of a four-slot memref as the transfers name it. -/
abbrev slotM (b : Memref sig .tc .vmem S4x64x512 .bf16) (s : Dev nD) : Memref sig .tc .vmem S64x512 .bf16 :=
  (b.slice (slotR s) (fun _ => rfl)).squeeze S64x512 squeezes_S1x64x512_S64x512

/-- The send buffer, -/
abbrev sbM : Memref sig .tc .vmem S4x64x512 .bf16 := Memref.whole cc0_scratch5
/-- the landing buffer, -/
abbrev rsM : Memref sig .tc .vmem S4x64x512 .bf16 := Memref.whole cc0_scratch6
/-- and the gather buffer. -/
abbrev agM : Memref sig .tc .vmem S4x64x512 .bf16 := Memref.whole cc0_scratch7

/-- The transfers' slot `s` of the send buffer is slot `s`; -/
theorem set_sb (s : Dev nD) : (slotM sbM s).view.set = slotSet s :=
  (View.set_reshape (v := (View.whole cc0_scratch5).slice (slotR s)) _).trans (View.set_slice_whole cc0_scratch5 (slotR s))
/-- so is the landing buffer's, -/
theorem set_rs (s : Dev nD) : (slotM rsM s).view.set = slotSet s :=
  (View.set_reshape (v := (View.whole cc0_scratch6).slice (slotR s)) _).trans (View.set_slice_whole cc0_scratch6 (slotR s))
/-- and the gather buffer's. -/
theorem set_ag (s : Dev nD) : (slotM agM s).view.set = slotSet s :=
  (View.set_reshape (v := (View.whole cc0_scratch7).slice (slotR s)) _).trans (View.set_slice_whole cc0_scratch7 (slotR s))

/-- A chunk moved from slot `s` of the send buffer to slot `s'` of a landing buffer. -/
theorem move_rs (s s' : Dev nD) (fd fs : BufVec F) (i : S4x64x512.Idx) (h : i ∈ slotSet s') :
    (slotM rsM s').view.write (Elt F) fd ((slotM sbM s).view.read (Elt F) fs) Finset.univ i = fs ((slotR s).emb (inSlot i)) := by
  have e : i = (slotM rsM s').view.emb ((Shape.reshapeEquiv (squeezes_S1x64x512_S64x512.numel_eq)).symm (inSlot i)) := by
    refine (slot_emb s' i h).symm.trans ?_
    show _ = (slotR s').emb (Shape.reshapeEquiv _ ((Shape.reshapeEquiv _).symm (inSlot i)))
    rw [Equiv.apply_symm_apply]
  conv_lhs => rw [e]
  refine (View.write_emb_of_mem (v := (slotM rsM s').view) fd _ (Finset.mem_univ _)).trans ?_
  show fs ((slotR s).emb (Shape.reshapeEquiv _ ((Shape.reshapeEquiv _).symm (inSlot i)))) = _
  rw [Equiv.apply_symm_apply]

/-- A sum moved from slot `s` of one gather buffer to slot `s'` of another. -/
theorem move_ag (s s' : Dev nD) (fd fs : BufVec F) (i : S4x64x512.Idx) (h : i ∈ slotSet s') :
    (slotM agM s').view.write (Elt F) fd ((slotM agM s).view.read (Elt F) fs) Finset.univ i = fs ((slotR s).emb (inSlot i)) := by
  have e : i = (slotM agM s').view.emb ((Shape.reshapeEquiv (squeezes_S1x64x512_S64x512.numel_eq)).symm (inSlot i)) := by
    refine (slot_emb s' i h).symm.trans ?_
    show _ = (slotR s').emb (Shape.reshapeEquiv _ ((Shape.reshapeEquiv _).symm (inSlot i)))
    rw [Equiv.apply_symm_apply]
  conv_lhs => rw [e]
  refine (View.write_emb_of_mem (v := (slotM agM s').view) fd _ (Finset.mem_univ _)).trans ?_
  show fs ((slotR s).emb (Shape.reshapeEquiv _ ((Shape.reshapeEquiv _).symm (inSlot i)))) = _
  rw [Equiv.apply_symm_apply]

/-- Two buffers given slot by slot agree on slot `s` when they are given the same there. -/
theorem slots_congr (v v' : Dev nD → SlotVec F) (s : Dev nD) (h : v s = v' s) : ∀ i ∈ slotSet s, slots v i = slots v' i := fun i hi => by
  rw [← slot_emb s i hi, slots_emb, slots_emb, h]

/-- So slot `s` of the send buffer depends on what it is given only, -/
theorem sbPt_congr (c s : Dev nD) (v v' : Dev nD → SlotVec F) (h : v s = v' s) : sbPt c s (slots v) = (sbPt c s (slots v') : sProp 𝕄) :=
  pointsTo_congr (slots_congr v v' s h)
/-- and of the landing buffer, -/
theorem rsPt_congr (c s : Dev nD) (v v' : Dev nD → SlotVec F) (h : v s = v' s) : rsPt c s (slots v) = (rsPt c s (slots v') : sProp 𝕄) :=
  pointsTo_congr (slots_congr v v' s h)
/-- and of the gather buffer. -/
theorem agPt_congr (c s : Dev nD) (q : PosShare TreeShare) (v v' : Dev nD → SlotVec F) (h : v s = v' s) :
    agPt c s q (slots v) = (agPt c s q (slots v') : sProp 𝕄) :=
  pointsTo_congr (slots_congr v v' s h)

/-! ## Loads and stores of slots -/

section Mem
variable (c : Dev nD)

/-- Reading slot `s` of the send buffer gives its contents. -/
theorem load_sb {QL : (S1x64x512.Idx → Elt F .bf16) → sProp 𝕄} {o : Fin 3 → ℕ} {inb} (s : Dev nD) (ho : o = ![s.val, 0, 0]) {hl} (f : BufVec F) :
    sbPt c s f ⊢ iprop((sbPt c s f -∗ QL (fun x => f ((slotR s).emb x))) -∗ wpB c (Prog.lift (.load sbM (Rect.unit (s := S4x64x512) o S1x64x512.size inb).toLoadRect hl)) QL) := by
  subst ho; unfold sbPt
  have h : iprop(((c : Thread nD τ).loc cc0_scratch5) ↦[slotSet s]{fullShare} f)
      ⊢ iprop(((((c : Thread nD τ).loc cc0_scratch5) ↦[slotSet s]{fullShare} f) -∗ wpB c (.ret (fun x : S1x64x512.Idx => f ((slotR s).emb x)) : Prog (TpuEff nD τ sig (Elt F) Λ₀ .tc) (S1x64x512.Idx → Elt F .bf16)) QL)
        -∗ wpB c (Prog.lift (.load sbM (slotR s).toLoadRect hl)) QL) :=
    wp_load_rect 𝒱₀ (c : Thread nD τ) none Set.univ (m := sbM) (r := slotR s) (S := slotSet s)
      (by exact (View.set_slice_whole cc0_scratch5 (slotR s)).subset)
  iintro Hs Hk
  iapply h $$ Hs
  iintro Hs
  unfold wpB
  rw [wp_ret]; imodintro
  iapply Hk $$ Hs

/-- Reading slot `s` of the landing buffer gives its contents. -/
theorem load_rs {QL : (S1x64x512.Idx → Elt F .bf16) → sProp 𝕄} {o : Fin 3 → ℕ} {inb} (s : Dev nD) (ho : o = ![s.val, 0, 0]) {hl} (f : BufVec F) :
    rsPt c s f ⊢ iprop((rsPt c s f -∗ QL (fun x => f ((slotR s).emb x))) -∗ wpB c (Prog.lift (.load rsM (Rect.unit (s := S4x64x512) o S1x64x512.size inb).toLoadRect hl)) QL) := by
  subst ho; unfold rsPt
  have h : iprop(((c : Thread nD τ).loc cc0_scratch6) ↦[slotSet s]{fullShare} f)
      ⊢ iprop(((((c : Thread nD τ).loc cc0_scratch6) ↦[slotSet s]{fullShare} f) -∗ wpB c (.ret (fun x : S1x64x512.Idx => f ((slotR s).emb x)) : Prog (TpuEff nD τ sig (Elt F) Λ₀ .tc) (S1x64x512.Idx → Elt F .bf16)) QL)
        -∗ wpB c (Prog.lift (.load rsM (slotR s).toLoadRect hl)) QL) :=
    wp_load_rect 𝒱₀ (c : Thread nD τ) none Set.univ (m := rsM) (r := slotR s) (S := slotSet s)
      (by exact (View.set_slice_whole cc0_scratch6 (slotR s)).subset)
  iintro Hs Hk
  iapply h $$ Hs
  iintro Hs
  unfold wpB
  rw [wp_ret]; imodintro
  iapply Hk $$ Hs

/-- Reading slot `s` of the gather buffer, at any share, gives its contents. -/
theorem load_ag {QL : (S1x64x512.Idx → Elt F .bf16) → sProp 𝕄} {o : Fin 3 → ℕ} {inb} (s : Dev nD) (ho : o = ![s.val, 0, 0]) {hl} (q : PosShare TreeShare) (f : BufVec F) :
    agPt c s q f ⊢ iprop((agPt c s q f -∗ QL (fun x => f ((slotR s).emb x))) -∗ wpB c (Prog.lift (.load agM (Rect.unit (s := S4x64x512) o S1x64x512.size inb).toLoadRect hl)) QL) := by
  subst ho; unfold agPt
  have h : iprop(((c : Thread nD τ).loc cc0_scratch7) ↦[slotSet s]{q} f)
      ⊢ iprop(((((c : Thread nD τ).loc cc0_scratch7) ↦[slotSet s]{q} f) -∗ wpB c (.ret (fun x : S1x64x512.Idx => f ((slotR s).emb x)) : Prog (TpuEff nD τ sig (Elt F) Λ₀ .tc) (S1x64x512.Idx → Elt F .bf16)) QL)
        -∗ wpB c (Prog.lift (.load agM (slotR s).toLoadRect hl)) QL) :=
    wp_load_rect 𝒱₀ (c : Thread nD τ) none Set.univ (m := agM) (r := slotR s) (S := slotSet s)
      (by exact (View.set_slice_whole cc0_scratch7 (slotR s)).subset)
  iintro Hs Hk
  iapply h $$ Hs
  iintro Hs
  unfold wpB
  rw [wp_ret]; imodintro
  iapply Hk $$ Hs

/-- Storing `v s` in slot `s` of the send buffer leaves the slot at `v s`. -/
theorem store_sb {Q : PUnit → sProp 𝕄} {o : Fin 3 → ℕ} {inb} (s : Dev nD) (ho : o = ![s.val, 0, 0]) {hx hm} (f : BufVec F) (w : SlotVec F) (v : Dev nD → SlotVec F) (hv : w = v s) :
    sbPt c s f ⊢ iprop((sbPt c s (slots v) -∗ Q ⟨⟩) -∗ wpB c (Prog.lift (.store sbM (Rect.unit (s := S4x64x512) o S1x64x512.size inb) w Finset.univ hx hm)) Q) := by
  subst ho; unfold sbPt
  iintro Hs Hk
  iapply (wp_store 𝒱₀ (c : Thread nD τ) none Set.univ (m := sbM) (r := slotR s) (Mk := Finset.univ) (S := slotSet s)
    (by exact (View.set_slice_whole cc0_scratch5 (slotR s)).subset)) $$ Hs
  iintro Hs
  rw [wp_ret]; imodintro
  iapply Hk
  iapply (Entails.of_eq (pointsTo_congr (fun i hi => ?_))) $$ Hs
  conv_lhs => rw [← slot_emb s i hi]
  refine (View.write_emb_of_mem (v := (sbM).access (slotR s)) f _ (Finset.mem_univ _)).trans ?_
  show w (inSlot i) = slots v i
  rw [hv, ← slot_emb s i hi, slots_emb, inSlot_emb]

/-- The same for the landing buffer. -/
theorem store_rs {Q : PUnit → sProp 𝕄} {o : Fin 3 → ℕ} {inb} (s : Dev nD) (ho : o = ![s.val, 0, 0]) {hx hm} (f : BufVec F) (w : SlotVec F) (v : Dev nD → SlotVec F) (hv : w = v s) :
    rsPt c s f ⊢ iprop((rsPt c s (slots v) -∗ Q ⟨⟩) -∗ wpB c (Prog.lift (.store rsM (Rect.unit (s := S4x64x512) o S1x64x512.size inb) w Finset.univ hx hm)) Q) := by
  subst ho; unfold rsPt
  iintro Hs Hk
  iapply (wp_store 𝒱₀ (c : Thread nD τ) none Set.univ (m := rsM) (r := slotR s) (Mk := Finset.univ) (S := slotSet s)
    (by exact (View.set_slice_whole cc0_scratch6 (slotR s)).subset)) $$ Hs
  iintro Hs
  rw [wp_ret]; imodintro
  iapply Hk
  iapply (Entails.of_eq (pointsTo_congr (fun i hi => ?_))) $$ Hs
  conv_lhs => rw [← slot_emb s i hi]
  refine (View.write_emb_of_mem (v := (rsM).access (slotR s)) f _ (Finset.mem_univ _)).trans ?_
  show w (inSlot i) = slots v i
  rw [hv, ← slot_emb s i hi, slots_emb, inSlot_emb]

/-- The same for the gather buffer. -/
theorem store_ag {Q : PUnit → sProp 𝕄} {o : Fin 3 → ℕ} {inb} (s : Dev nD) (ho : o = ![s.val, 0, 0]) {hx hm} (f : BufVec F) (w : SlotVec F) (v : Dev nD → SlotVec F) (hv : w = v s) :
    agPt c s fullShare f ⊢ iprop((agPt c s fullShare (slots v) -∗ Q ⟨⟩) -∗ wpB c (Prog.lift (.store agM (Rect.unit (s := S4x64x512) o S1x64x512.size inb) w Finset.univ hx hm)) Q) := by
  subst ho; unfold agPt
  iintro Hs Hk
  iapply (wp_store 𝒱₀ (c : Thread nD τ) none Set.univ (m := agM) (r := slotR s) (Mk := Finset.univ) (S := slotSet s)
    (by exact (View.set_slice_whole cc0_scratch7 (slotR s)).subset)) $$ Hs
  iintro Hs
  rw [wp_ret]; imodintro
  iapply Hk
  iapply (Entails.of_eq (pointsTo_congr (fun i hi => ?_))) $$ Hs
  conv_lhs => rw [← slot_emb s i hi]
  refine (View.write_emb_of_mem (v := (agM).access (slotR s)) f _ (Finset.mem_univ _)).trans ?_
  show w (inSlot i) = slots v i
  rw [hv, ← slot_emb s i hi, slots_emb, inSlot_emb]

end Mem

/-! ## The exchange's steps -/

/-- What every device knows throughout: the levels, the semaphores' invariants at the names `K`, and that every semaphore's
    round 0 has begun. -/
def records (K : Dev nD × Kd → ℕ) : sProp 𝕄 :=
  iprop(levAts L lv ∗ (bigSep Finset.univ fun ck => cellInv ER (Rd m) (K ck) (kcell ck)) ∗ bigSep Finset.univ fun ck => reached ER (kcell ck) 0)

/-- What every device knows may be used any number of times. -/
instance records_persistent (K : Dev nD × Kd → ℕ) : BI.Persistent (records m K) := by unfold records; infer_instance

/-- Device `c` owes `O`, whatever it has waited on. -/
def owing (c : Dev nD) (O : CellTallies nD τ sig Unit) : sProp 𝕄 := iprop(∃ W, owes (c : Thread nD τ) O W)

/-- It holds the invariant of every protocol semaphore, -/
theorem records_inv (K : Dev nD × Kd → ℕ) (ck : Dev nD × Kd) : records m K ⊢ cellInv ER (Rd m) (K ck) (kcell ck) := by
  unfold records
  exact sep_elim_right.trans (sep_elim_left.trans (bigSep_elim (Φ := fun ck => cellInv ER (Rd m) (K ck) (kcell ck)) (Finset.mem_univ ck)))
/-- that its round 0 has begun, -/
theorem records_reached (K : Dev nD × Kd → ℕ) (ck : Dev nD × Kd) : records m K ⊢ reached ER (kcell ck) 0 := by
  unfold records
  exact sep_elim_right.trans (sep_elim_right.trans (bigSep_elim (Φ := fun ck => (reached ER (kcell ck) 0 : sProp 𝕄)) (Finset.mem_univ ck)))
/-- and that a device may wait on a semaphore when all it owes is above the semaphore's level. -/
theorem records_mayWait (K : Dev nD × Kd → ℕ) (c : Dev nD) (sm : SemLoc sig) {O : CellTallies nD τ sig Unit}
    (h : Above (lv ((c : Thread nD τ), sm) ()) O) : records m K ⊢ MayWait (c : Thread nD τ) sm () O := by
  unfold records; iintro ⟨H, -, -⟩
  iapply (mayWait (F := F) c sm h) $$ H

section Exchange
variable (K : Dev nD × Kd → ℕ) (c : Dev nD)

/-- Device `c` signals peer `p`'s barrier, handing over slot `p` of its own landing and gather buffers. -/
theorem step_signal (p : Dev nD) (h : c ≠ p) {n : Dev nD} (hn : n = p) (O : CellTallies nD τ sig Unit) {Q : PUnit → sProp 𝕄} :
    iprop(records m K ∗ owing c (O + tallyAt (barCell p) () 1) ∗ dutyTok ER (barCell p) 0 c ∗ (∃ f, rsPt c p f) ∗ ∃ f, agPt c p fullShare f)
      ⊢ iprop((owing c O -∗ Q ⟨⟩) -∗ wpB c (semSignalWord (n : Dev nD) barS 1#32) Q) := by
  subst hn; unfold owing
  iintro ⟨#HR, ⟨%W, HO⟩, Ht, Hrs, Hag⟩ Hk
  iapply (Rounds.wp_signal 𝒱₀ ER (Rd m) (c : Thread nD τ) none (dst := (n : Thread nD τ)) (κ := K (n, .inl ())) (d := c)
    (mem_bar m n c h) ((amount_bar m n c).trans (by decide)) () O rfl) $$ [Ht HO Hrs Hag]
  · isplitr; · iapply (records_inv m K (n, .inl ())) $$ HR
    isplitl [HO]; · iexact HO
    isplitl [Ht]; · iexact Ht
    isplitl [Hrs Hag]
    · rw [show (Rd m).payload ((n : Thread nD τ), .reg barS) 0 c = payOf m n c (.inl ()) from payload_eq m n (.inl ()) c]
      unfold payOf; isplitl [Hrs]
      · iexact Hrs
      · iexact Hag
    iapply (records_reached m K (n, .inl ())) $$ HR
  iintro HO
  rw [wp_ret]; imodintro
  iapply Hk; iexists W; iexact HO

/-- Device `c` waits for its three peers' signals: each hands it the slots of its buffers that `c` will fill. -/
theorem step_barrier {O : CellTallies nD τ sig Unit} (hO : Above 1 O) {Q : PUnit → sProp 𝕄} :
    iprop(records m K ∗ cred (tallyAt (barCell c) () 3) ∗ owing c O ∗ atPos ER (barCell c) 0 ∅ 0)
      ⊢ iprop((owing c O ∗ atPos ER (barCell c) (0 + 1) ∅ 0
          ∗ payOf m c (peer 1 c) (.inl ()) ∗ payOf m c (peer 2 c) (.inl ()) ∗ payOf m c (peer 3 c) (.inl ()) -∗ Q ⟨⟩)
        -∗ wpB c (semWaitWord barS 3#32) Q) := by
  unfold owing
  iintro ⟨#HR, Hc, ⟨%W, HO⟩, Ha⟩ Hk
  iapply (Rounds.wp_wait_rest_token 𝒱₀ ER (Rd m) (c : Thread nD τ) none (κ := K (c, .inl ()))
    (wpE_semWait_eq 𝒱₀ (c : Thread nD τ) none Set.univ) (Set.mem_univ _) () (O := O) (W := W) (R := 0) (m := 0) (T := ∅)
    (by rw [expect_bar]; decide)) $$ [Hc HO Ha]
  · isplitr; · iapply (records_inv m K (c, .inl ())) $$ HR
    isplitl [Hc]; · iexact Hc
    isplitl [HO]; · iexact HO
    isplitr; · iapply (records_mayWait m K c (.reg barS) hO) $$ HR
    iexact Ha
  iintro ⟨HO, Ha, -, Hp⟩
  rw [wp_ret]; imodintro
  ihave Hp := (Entails.of_eq (rest_bar m c)) $$ Hp
  iapply Hk
  isplitl [HO]; · iexists _; iexact HO
  isplitl [Ha]; · iexact Ha
  iexact Hp

/-- Device `c` waits for slot `s` of family `f`: it gets what that semaphore's round brings. -/
theorem step_wait (f : Fin 4) (s : Dev nD) (h : s ≠ c) {q : DmaSem sig} (hq : q = sq f s)
    {src dst : Memref sig .tc .vmem S64x512 .bf16} {h1 h2} (hN : dst.view.dmaCredit = N)
    {O : CellTallies nD τ sig Unit} (hO : Above (if f = 1 then 2 else if f = 3 then 3 else 0) O) {Q : PUnit → sProp 𝕄} :
    iprop(records m K ∗ cred (tallyAt (dCell f s c) () N) ∗ owing c O ∗ atPos ER (dCell f s c) 0 ∅ 0)
      ⊢ iprop((owing c O ∗ atPos ER (dCell f s c) (0 + 1) ∅ 0 ∗ payOf m c c (.inr (f, s)) -∗ Q ⟨⟩)
        -∗ wpB c (Prog.lift (.waitDma2 q src dst h1 h2)) Q) := by
  subst hq; unfold owing
  iintro ⟨#HR, Hc, ⟨%W, HO⟩, Ha⟩ Hk
  iapply (Rounds.wp_wait_rest_token 𝒱₀ ER (Rd m) (c : Thread nD τ) none (κ := K (c, .inr (f, s)))
    (wpE_waitDma2_eq 𝒱₀ (c : Thread nD τ) none Set.univ) (Set.mem_univ _) () (O := O) (W := W) (R := 0) (m := 0) (T := ∅)
    (by rw [Nat.zero_add, expect_dma m c f s h]; exact hN)) $$ [Hc HO Ha]
  · isplitr; · iapply (records_inv m K (c, .inr (f, s))) $$ HR
    isplitl [Hc]; · rw [hN]; iexact Hc
    isplitl [HO]; · iexact HO
    isplitr; · iapply (records_mayWait m K c (.dma (sq f s)) (by rw [lv_dma]; exact hO)) $$ HR
    iexact Ha
  iintro ⟨HO, Ha, -, Hp⟩
  rw [wp_ret]; imodintro
  ihave Hp := (Entails.of_eq (rest_dma m c f s h)) $$ Hp
  iapply Hk
  isplitl [HO]; · iexists _; iexact HO
  isplitl [Ha]; · iexact Ha
  iexact Hp

/-- Device `c` sends chunk `s` of its send buffer to device `s`'s landing buffer, slot `c`. -/
theorem step_scatter (s : Dev nD) (h : s ≠ c) {o o' : Fin 3 → ℕ} {i i'} (ho : o = ![s.val, 0, 0]) (ho' : o' = ![c.val, 0, 0])
    {n : Dev nD} (hn : n = s) {q q' : DmaSem sig} (hq : q = sq 0 s) (hq' : q' = sq 1 c) {h3 h1 h2 h4}
    (O : CellTallies nD τ sig Unit) {Q : PUnit → sProp 𝕄} :
    iprop(records m K ∗ sbPt c s (sbC m c) ∗ (∃ f, rsPt s c f) ∗ owing c (O + tallyAt (dCell 1 c s) () N)
        ∗ dutyTok ER (dCell 0 s c) 0 c ∗ dutyTok ER (dCell 1 c s) 0 s)
      ⊢ iprop((cred (tallyAt (dCell 0 s c) () N) ∗ owing c O -∗ Q ⟨⟩)
        -∗ wpB c (Prog.lift (.enqueueDma ((sbM.slice (Rect.unit (s := S4x64x512) o S1x64x512.size i) (fun _ => rfl)).squeeze S64x512 squeezes_S1x64x512_S64x512)
            (.remote (Dev.tc (n : Dev nD)) ((rsM.slice (Rect.unit (s := S4x64x512) o' S1x64x512.size i') (fun _ => rfl)).squeeze S64x512 squeezes_S1x64x512_S64x512)
              (.dma q) h3) (.dma q') h1 h2 h4)) Q) := by
  subst ho ho' hq hq'; subst hn; unfold owing sbPt rsPt
  iintro ⟨#HR, Hs, ⟨%fd, Hd⟩, ⟨%W, HO⟩, Ht1, Ht2⟩ Hk
  iapply (Rounds.wp_send_pointsTo 𝒱₀ ER (Rd m) (c : Thread nD τ) none (c' := (n : Thread nD τ)) (src := slotM sbM n) (dst := slotM rsM c)
    (κ₁ := K (c, .inr (0, n))) (κ₂ := K (n, .inr (1, c)))
    (r₁ := 0) (r₂ := 0) (d₁ := c) (d₂ := n) (fs := sbC m c) (fd := fd) (q := fullShare)
    (mem_dma m c 0 n h) (mem_dma m n 1 c h.symm)
    () () N rfl (amount_dma m c 0 n c) (amount_dma m n 1 c n) O rfl (W := W)
    (by rw [show (Rd m).payload ((c : Thread nD τ), .dma (sq 0 n)) 0 c = payOf m c c (.inr (0, n)) from payload_eq m c (.inr (0, n)) c, set_sb]
        exact BI.Entails.refl _)
    (by rw [show (Rd m).payload ((n : Thread nD τ), .dma (sq 1 c)) 0 n = payOf m n n (.inr (1, c)) from payload_eq m n (.inr (1, c)) n, set_rs]
        exact Entails.of_eq (pointsTo_congr fun i hi => (move_rs n c fd (sbC m c) i hi).trans (by
          unfold sbC rsC
          rw [slots_emb, ← slot_emb c i hi, slots_emb, inSlot_emb])))) $$ [Hs Hd HO Ht1 Ht2]
  · isplitr; · iapply (records_inv m K (c, .inr (0, n))) $$ HR
    isplitr; · iapply (records_inv m K (n, .inr (1, c))) $$ HR
    isplitl [Hs]; · rw [set_sb]; iexact Hs
    isplitl [Hd]; · rw [set_rs]; iexact Hd
    isplitl [HO]; · iexact HO
    isplitl [Ht1]; · iexact Ht1
    isplitr; · iapply (records_reached m K (c, .inr (0, n))) $$ HR
    isplitl [Ht2]; · iexact Ht2
    iapply (records_reached m K (n, .inr (1, c))) $$ HR
  iintro ⟨Hc, HO⟩
  rw [wp_ret]; imodintro
  iapply Hk
  isplitl [Hc]; · iexact Hc
  iexists W; iexact HO

/-- Device `c` sends its sum to slot `c` of device `t`'s gather buffer, lending the transfer share `t` of its own. -/
theorem step_gather (t : Dev nD) (h : t ≠ c) {o o' : Fin 3 → ℕ} {i i'} (ho : o = ![c.val, 0, 0]) (ho' : o' = ![c.val, 0, 0])
    {n : Dev nD} (hn : n = t) {q q' : DmaSem sig} (hq : q = sq 2 t) (hq' : q' = sq 3 c) {h3 h1 h2 h4}
    (O : CellTallies nD τ sig Unit) {Q : PUnit → sProp 𝕄} :
    iprop(records m K ∗ agPt c c (lend t) (agC m) ∗ (∃ f, agPt t c fullShare f) ∗ owing c (O + tallyAt (dCell 3 c t) () N)
        ∗ dutyTok ER (dCell 2 t c) 0 c ∗ dutyTok ER (dCell 3 c t) 0 t)
      ⊢ iprop((cred (tallyAt (dCell 2 t c) () N) ∗ owing c O -∗ Q ⟨⟩)
        -∗ wpB c (Prog.lift (.enqueueDma ((agM.slice (Rect.unit (s := S4x64x512) o S1x64x512.size i) (fun _ => rfl)).squeeze S64x512 squeezes_S1x64x512_S64x512)
            (.remote (Dev.tc (n : Dev nD)) ((agM.slice (Rect.unit (s := S4x64x512) o' S1x64x512.size i') (fun _ => rfl)).squeeze S64x512 squeezes_S1x64x512_S64x512)
              (.dma q) h3) (.dma q') h1 h2 h4)) Q) := by
  subst ho ho' hq hq'; subst hn; unfold owing agPt
  iintro ⟨#HR, Hs, ⟨%fd, Hd⟩, ⟨%W, HO⟩, Ht1, Ht2⟩ Hk
  iapply (Rounds.wp_send_pointsTo 𝒱₀ ER (Rd m) (c : Thread nD τ) none (c' := (n : Thread nD τ)) (src := slotM agM c) (dst := slotM agM c)
    (κ₁ := K (c, .inr (2, n))) (κ₂ := K (n, .inr (3, c)))
    (r₁ := 0) (r₂ := 0) (d₁ := c) (d₂ := n) (fs := agC m) (fd := fd) (q := lend n)
    (mem_dma m c 2 n h) (mem_dma m n 3 c h.symm)
    () () N rfl (amount_dma m c 2 n c) (amount_dma m n 3 c n) O rfl (W := W)
    (by rw [show (Rd m).payload ((c : Thread nD τ), .dma (sq 2 n)) 0 c = payOf m c c (.inr (2, n)) from payload_eq m c (.inr (2, n)) c, set_ag]
        exact BI.Entails.refl _)
    (by rw [show (Rd m).payload ((n : Thread nD τ), .dma (sq 3 c)) 0 n = payOf m n n (.inr (3, c)) from payload_eq m n (.inr (3, c)) n, set_ag]
        exact Entails.of_eq (pointsTo_congr fun i hi => (move_ag c c fd (agC m) i hi).trans (by rw [slot_emb c i hi])))) $$ [Hs Hd HO Ht1 Ht2]
  · isplitr; · iapply (records_inv m K (c, .inr (2, n))) $$ HR
    isplitr; · iapply (records_inv m K (n, .inr (3, c))) $$ HR
    isplitl [Hs]; · rw [set_ag]; iexact Hs
    isplitl [Hd]; · rw [set_ag]; iexact Hd
    isplitl [HO]; · iexact HO
    isplitl [Ht1]; · iexact Ht1
    isplitr; · iapply (records_reached m K (c, .inr (2, n))) $$ HR
    isplitl [Ht2]; · iexact Ht2
    iapply (records_reached m K (n, .inr (3, c))) $$ HR
  iintro ⟨Hc, HO⟩
  rw [wp_ret]; imodintro
  iapply Hk
  isplitl [Hc]; · iexact Hc
  iexists W; iexact HO

/-- A slot of the landing buffer carries a slot's credit, -/
theorem credit_rs {o : Fin 3 → ℕ} {i} : ((rsM.slice (Rect.unit (s := S4x64x512) o S1x64x512.size i) (fun _ => rfl)).squeeze S64x512
    squeezes_S1x64x512_S64x512).view.dmaCredit = N := rfl
/-- so does one of the send buffer, -/
theorem credit_sb {o : Fin 3 → ℕ} {i} : ((sbM.slice (Rect.unit (s := S4x64x512) o S1x64x512.size i) (fun _ => rfl)).squeeze S64x512
    squeezes_S1x64x512_S64x512).view.dmaCredit = N := rfl
/-- and one of the gather buffer. -/
theorem credit_ag {o : Fin 3 → ℕ} {i} : ((agM.slice (Rect.unit (s := S4x64x512) o S1x64x512.size i) (fun _ => rfl)).squeeze S64x512
    squeezes_S1x64x512_S64x512).view.dmaCredit = N := rfl

/-- The reduce-scatter's send semaphore at offset `s`. -/
theorem sem_rsS (s : Dev nD) {o : Fin 1 → ℕ} {i} (h : o = ![s.val]) :
    (((cc0_scratch11 : DmaSems sig S4).slice (Rect.unit (s := S4) o S1.size i)).squeeze S_ squeezes_S1_S_).sem = sq 0 s := by
  subst h; revert s; decide
/-- The reduce-scatter's receive semaphore at offset `s`. -/
theorem sem_rsR (s : Dev nD) {o : Fin 1 → ℕ} {i} (h : o = ![s.val]) :
    (((cc0_scratch12 : DmaSems sig S4).slice (Rect.unit (s := S4) o S1.size i)).squeeze S_ squeezes_S1_S_).sem = sq 1 s := by
  subst h; revert s; decide
/-- The all-gather's send semaphore at offset `s`. -/
theorem sem_agS (s : Dev nD) {o : Fin 1 → ℕ} {i} (h : o = ![s.val]) :
    (((cc0_scratch13 : DmaSems sig S4).slice (Rect.unit (s := S4) o S1.size i)).squeeze S_ squeezes_S1_S_).sem = sq 2 s := by
  subst h; revert s; decide
/-- The all-gather's receive semaphore at offset `s`. -/
theorem sem_agR (s : Dev nD) {o : Fin 1 → ℕ} {i} (h : o = ![s.val]) :
    (((cc0_scratch14 : DmaSems sig S4).slice (Rect.unit (s := S4) o S1.size i)).squeeze S_ squeezes_S1_S_).sem = sq 3 s := by
  subst h; revert s; decide

/-! ## Copies inside a device -/

/-- A copy of one whole buffer to another on device `c`'s own semaphore `q`, started. -/
theorem step_copy {sp sp' : Space} {s : Shape} {e : EltTy} (src : Memref sig .tc sp s e) (dst : Memref sig .tc sp' s e) {q : DmaSem sig}
    (q' : DmaSem sig) (hq : q = q') {h1 h2 h3}
    (fs : Buf (Elt F) (src.view.loc (c : Thread nD τ))) (fd w : Buf (Elt F) (dst.view.loc (c : Thread nD τ)))
    (hS : src.view.set = Finset.univ) (hD : dst.view.set = Finset.univ) (n : ℕ) (hn : dst.view.amount (.dma q') = n) (h0 : 0 < n)
    (hw : dst.view.write (Elt F) fd (src.view.read (Elt F) fs) Finset.univ = w) {Q : PUnit → sProp 𝕄} :
    iprop((src.view.loc (c : Thread nD τ) ↦{fullShare} fs) ∗ (dst.view.loc (c : Thread nD τ) ↦{fullShare} fd) ∗ semVal ((c : Thread nD τ), .dma q') 0)
      ⊢ iprop((Transfers.Flight countersEmb (c : Thread nD τ) (.dma q') () n
            iprop((dst.view.loc (c : Thread nD τ) ↦{fullShare} w) ∗ (src.view.loc (c : Thread nD τ) ↦{fullShare} fs)) -∗ Q ⟨⟩)
        -∗ wpB c (Prog.lift (.enqueueDma src (.here dst) (.dma q) h1 h2 h3)) Q) := by
  subst hq hw
  iintro ⟨Hs, Hd, Hv⟩ Hk
  iapply (Transfers.wp_dmaLocal (U := UU) countersEmb 𝒱₀ (c : Thread nD τ) none (src := src) (dst := dst) (via := .same) (Sd := Finset.univ) (fs := fs) (fd := fd) (q := fullShare)
    () n hn h0 (by rw [hD])) $$ [Hs Hd Hv]
  · rw [hS]
    isplitl [Hs]; · iexact Hs
    isplitl [Hd]; · iexact Hd
    iexact Hv
  iintro Hf
  rw [wp_ret]; imodintro
  rw [hS]
  iapply Hk $$ Hf

/-- That copy awaited. -/
theorem step_landed {sp sp' : Space} {s s' : Shape} {e e' : EltTy} {src : Memref sig .tc sp s e} {dst : Memref sig .tc sp' s' e'} {q : DmaSem sig}
    (q' : DmaSem sig) (hq : q = q') {h1 h2} (n : ℕ) (hn : dst.view.dmaCredit = n) {D : sProp 𝕄} {O : CellTallies nD τ sig Unit}
    (hO : Above (lv ((c : Thread nD τ), .dma q') ()) O) {Q : PUnit → sProp 𝕄} :
    iprop(records m K ∗ Transfers.Flight countersEmb (c : Thread nD τ) (.dma q') () n D ∗ owing c O)
      ⊢ iprop((D ∗ semVal ((c : Thread nD τ), .dma q') 0 ∗ owing c O -∗ Q ⟨⟩)
        -∗ wpB c (Prog.lift (.waitDma2 q src dst h1 h2)) Q) := by
  subst hq; unfold owing
  iintro ⟨#HR, Hf, ⟨%W, HO⟩⟩ Hk
  iapply (Transfers.wp_waitLocalO (U := UU) countersEmb 𝒱₀ (c : Thread nD τ) none () hn) $$ [Hf HO]
  · isplitl [Hf]; · iexact Hf
    isplitl [HO]; · iexact HO
    iapply (records_mayWait m K c (.dma q) hO) $$ HR
  iintro ⟨HD, Hv, HO⟩
  rw [wp_ret]; imodintro
  iapply Hk
  isplitl [HD]; · iexact HD
  isplitl [Hv]; · iexact Hv
  iexists _; iexact HO

end Exchange

end Cert.Ring
-- ==== Proof.PartsA.lean ====
/-
# The first stages of a device's body: its operands brought in, its peers told, its attention computed
-/
module

public import proofs.«01_k».proof.Proof.Steps

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Device `c`'s whole buffer `b` at contents `f`. -/
abbrev bPt (c : Dev nD) (b : Ref sig .tc) (f : Buf (Elt F) ((c : Thread nD τ).loc b)) : sProp 𝕄 := ((c : Thread nD τ).loc b) ↦{fullShare} f

/-- The offsets of a whole array of two axes are zero. -/
theorem zero2 : (![0, 0] : Fin 2 → ℕ) = fun _ => 0 := funext fun a => by fin_cases a <;> rfl
/-- And of three. -/
theorem zero3 : (![0, 0, 0] : Fin 3 → ℕ) = fun _ => 0 := funext fun a => by fin_cases a <;> rfl

section Whole
variable (c : Dev nD)

/-- A load of operand buffer 0, whole. -/
theorem load_w0 {inb hl} (f : Vec F S2x128x512 .f32) {Q : Vec F S2x128x512 .f32 → sProp 𝕄} :
    bPt c cc0_scratch0 f ⊢ iprop((bPt c cc0_scratch0 f -∗ Q f)
      -∗ wpB c (Prog.lift (.load (Memref.whole cc0_scratch0 : Memref sig .tc .vmem S2x128x512 .f32) (Rect.unit (s := S2x128x512) ![0, 0, 0] S2x128x512.size inb).toLoadRect hl)) Q) := by
  have e : (Memref.whole cc0_scratch0 : Memref sig .tc .vmem S2x128x512 .f32).view.readAt (Elt F) (Rect.unit (s := S2x128x512) ![0, 0, 0] S2x128x512.size inb).toLoadRect f = f :=
    Memref.readAt_unit_zero (Elt F) cc0_scratch0 zero3 _ f
  have h : bPt c cc0_scratch0 f ⊢ iprop((bPt c cc0_scratch0 f
        -∗ wpB c (.ret ((Memref.whole cc0_scratch0 : Memref sig .tc .vmem S2x128x512 .f32).view.readAt (Elt F) (Rect.unit (s := S2x128x512) ![0, 0, 0] S2x128x512.size inb).toLoadRect f) : Prog (TpuEff nD τ sig (Elt F) Λ₀ .tc) (Vec F S2x128x512 .f32)) Q)
      -∗ wpB c (Prog.lift (.load (Memref.whole cc0_scratch0 : Memref sig .tc .vmem S2x128x512 .f32) (Rect.unit (s := S2x128x512) ![0, 0, 0] S2x128x512.size inb).toLoadRect hl)) Q) :=
    wp_load 𝒱₀ (c : Thread nD τ) none Set.univ (m := (Memref.whole cc0_scratch0 : Memref sig .tc .vmem S2x128x512 .f32)) (S := Finset.univ) (Finset.subset_univ _)
  rw [e] at h
  iintro Hs Hk
  iapply h $$ Hs
  iintro Hs
  unfold wpB
  rw [wp_ret]; imodintro
  iapply Hk $$ Hs

/-- A load of operand buffer 1, whole. -/
theorem load_w1 {inb hl} (f : Vec F S512x512 .f32) {Q : Vec F S512x512 .f32 → sProp 𝕄} :
    bPt c cc0_scratch1 f ⊢ iprop((bPt c cc0_scratch1 f -∗ Q f)
      -∗ wpB c (Prog.lift (.load (Memref.whole cc0_scratch1 : Memref sig .tc .vmem S512x512 .f32) (Rect.unit (s := S512x512) ![0, 0] S512x512.size inb).toLoadRect hl)) Q) := by
  have e : (Memref.whole cc0_scratch1 : Memref sig .tc .vmem S512x512 .f32).view.readAt (Elt F) (Rect.unit (s := S512x512) ![0, 0] S512x512.size inb).toLoadRect f = f :=
    Memref.readAt_unit_zero (Elt F) cc0_scratch1 zero2 _ f
  have h : bPt c cc0_scratch1 f ⊢ iprop((bPt c cc0_scratch1 f
        -∗ wpB c (.ret ((Memref.whole cc0_scratch1 : Memref sig .tc .vmem S512x512 .f32).view.readAt (Elt F) (Rect.unit (s := S512x512) ![0, 0] S512x512.size inb).toLoadRect f) : Prog (TpuEff nD τ sig (Elt F) Λ₀ .tc) (Vec F S512x512 .f32)) Q)
      -∗ wpB c (Prog.lift (.load (Memref.whole cc0_scratch1 : Memref sig .tc .vmem S512x512 .f32) (Rect.unit (s := S512x512) ![0, 0] S512x512.size inb).toLoadRect hl)) Q) :=
    wp_load 𝒱₀ (c : Thread nD τ) none Set.univ (m := (Memref.whole cc0_scratch1 : Memref sig .tc .vmem S512x512 .f32)) (S := Finset.univ) (Finset.subset_univ _)
  rw [e] at h
  iintro Hs Hk
  iapply h $$ Hs
  iintro Hs
  unfold wpB
  rw [wp_ret]; imodintro
  iapply Hk $$ Hs

/-- A load of operand buffer 2, whole. -/
theorem load_w2 {inb hl} (f : Vec F S512x512 .f32) {Q : Vec F S512x512 .f32 → sProp 𝕄} :
    bPt c cc0_scratch2 f ⊢ iprop((bPt c cc0_scratch2 f -∗ Q f)
      -∗ wpB c (Prog.lift (.load (Memref.whole cc0_scratch2 : Memref sig .tc .vmem S512x512 .f32) (Rect.unit (s := S512x512) ![0, 0] S512x512.size inb).toLoadRect hl)) Q) := by
  have e : (Memref.whole cc0_scratch2 : Memref sig .tc .vmem S512x512 .f32).view.readAt (Elt F) (Rect.unit (s := S512x512) ![0, 0] S512x512.size inb).toLoadRect f = f :=
    Memref.readAt_unit_zero (Elt F) cc0_scratch2 zero2 _ f
  have h : bPt c cc0_scratch2 f ⊢ iprop((bPt c cc0_scratch2 f
        -∗ wpB c (.ret ((Memref.whole cc0_scratch2 : Memref sig .tc .vmem S512x512 .f32).view.readAt (Elt F) (Rect.unit (s := S512x512) ![0, 0] S512x512.size inb).toLoadRect f) : Prog (TpuEff nD τ sig (Elt F) Λ₀ .tc) (Vec F S512x512 .f32)) Q)
      -∗ wpB c (Prog.lift (.load (Memref.whole cc0_scratch2 : Memref sig .tc .vmem S512x512 .f32) (Rect.unit (s := S512x512) ![0, 0] S512x512.size inb).toLoadRect hl)) Q) :=
    wp_load 𝒱₀ (c : Thread nD τ) none Set.univ (m := (Memref.whole cc0_scratch2 : Memref sig .tc .vmem S512x512 .f32)) (S := Finset.univ) (Finset.subset_univ _)
  rw [e] at h
  iintro Hs Hk
  iapply h $$ Hs
  iintro Hs
  unfold wpB
  rw [wp_ret]; imodintro
  iapply Hk $$ Hs

/-- A load of operand buffer 3, whole. -/
theorem load_w3 {inb hl} (f : Vec F S512x512 .f32) {Q : Vec F S512x512 .f32 → sProp 𝕄} :
    bPt c cc0_scratch3 f ⊢ iprop((bPt c cc0_scratch3 f -∗ Q f)
      -∗ wpB c (Prog.lift (.load (Memref.whole cc0_scratch3 : Memref sig .tc .vmem S512x512 .f32) (Rect.unit (s := S512x512) ![0, 0] S512x512.size inb).toLoadRect hl)) Q) := by
  have e : (Memref.whole cc0_scratch3 : Memref sig .tc .vmem S512x512 .f32).view.readAt (Elt F) (Rect.unit (s := S512x512) ![0, 0] S512x512.size inb).toLoadRect f = f :=
    Memref.readAt_unit_zero (Elt F) cc0_scratch3 zero2 _ f
  have h : bPt c cc0_scratch3 f ⊢ iprop((bPt c cc0_scratch3 f
        -∗ wpB c (.ret ((Memref.whole cc0_scratch3 : Memref sig .tc .vmem S512x512 .f32).view.readAt (Elt F) (Rect.unit (s := S512x512) ![0, 0] S512x512.size inb).toLoadRect f) : Prog (TpuEff nD τ sig (Elt F) Λ₀ .tc) (Vec F S512x512 .f32)) Q)
      -∗ wpB c (Prog.lift (.load (Memref.whole cc0_scratch3 : Memref sig .tc .vmem S512x512 .f32) (Rect.unit (s := S512x512) ![0, 0] S512x512.size inb).toLoadRect hl)) Q) :=
    wp_load 𝒱₀ (c : Thread nD τ) none Set.univ (m := (Memref.whole cc0_scratch3 : Memref sig .tc .vmem S512x512 .f32)) (S := Finset.univ) (Finset.subset_univ _)
  rw [e] at h
  iintro Hs Hk
  iapply h $$ Hs
  iintro Hs
  unfold wpB
  rw [wp_ret]; imodintro
  iapply Hk $$ Hs

/-- A load of operand buffer 4, whole. -/
theorem load_w4 {inb hl} (f : Vec F S512x512 .f32) {Q : Vec F S512x512 .f32 → sProp 𝕄} :
    bPt c cc0_scratch4 f ⊢ iprop((bPt c cc0_scratch4 f -∗ Q f)
      -∗ wpB c (Prog.lift (.load (Memref.whole cc0_scratch4 : Memref sig .tc .vmem S512x512 .f32) (Rect.unit (s := S512x512) ![0, 0] S512x512.size inb).toLoadRect hl)) Q) := by
  have e : (Memref.whole cc0_scratch4 : Memref sig .tc .vmem S512x512 .f32).view.readAt (Elt F) (Rect.unit (s := S512x512) ![0, 0] S512x512.size inb).toLoadRect f = f :=
    Memref.readAt_unit_zero (Elt F) cc0_scratch4 zero2 _ f
  have h : bPt c cc0_scratch4 f ⊢ iprop((bPt c cc0_scratch4 f
        -∗ wpB c (.ret ((Memref.whole cc0_scratch4 : Memref sig .tc .vmem S512x512 .f32).view.readAt (Elt F) (Rect.unit (s := S512x512) ![0, 0] S512x512.size inb).toLoadRect f) : Prog (TpuEff nD τ sig (Elt F) Λ₀ .tc) (Vec F S512x512 .f32)) Q)
      -∗ wpB c (Prog.lift (.load (Memref.whole cc0_scratch4 : Memref sig .tc .vmem S512x512 .f32) (Rect.unit (s := S512x512) ![0, 0] S512x512.size inb).toLoadRect hl)) Q) :=
    wp_load 𝒱₀ (c : Thread nD τ) none Set.univ (m := (Memref.whole cc0_scratch4 : Memref sig .tc .vmem S512x512 .f32)) (S := Finset.univ) (Finset.subset_univ _)
  rw [e] at h
  iintro Hs Hk
  iapply h $$ Hs
  iintro Hs
  unfold wpB
  rw [wp_ret]; imodintro
  iapply Hk $$ Hs

end Whole

/-- An operand's copy in flight on semaphore `q`: what it delivers. -/
abbrev fl (c : Dev nD) (q : DmaSem sig) (n : ℕ) (src dst : Ref sig .tc) (f : Buf (Elt F) ((c : Thread nD τ).loc src))
    (w : Buf (Elt F) ((c : Thread nD τ).loc dst)) : sProp 𝕄 :=
  Transfers.Flight countersEmb (c : Thread nD τ) (.dma q) () n iprop(bPt c dst w ∗ bPt c src f)

/-- The credit of a transfer of `x`. -/
abbrev nX : ℕ := (Memref.whole cc0_scratch0 : Memref sig .tc .vmem S2x128x512 .f32).view.dmaCredit
/-- That of a weight matrix. -/
abbrev nW : ℕ := (Memref.whole cc0_scratch1 : Memref sig .tc .vmem S512x512 .f32).view.dmaCredit
/-- That of the result. -/
abbrev nO : ℕ := (Memref.whole main_v1 : Memref sig .tc .hbm S2x128x512 .bf16).view.dmaCredit

section Parts
variable (K : Dev nD × Kd → ℕ) (c : Dev nD)

/-- No device is its own first peer, -/
theorem ne_peer1 : c ≠ peer 1 c := by revert c; decide
/-- nor its second, -/
theorem ne_peer2 : c ≠ peer 2 c := by revert c; decide
/-- nor its third. -/
theorem ne_peer3 : c ≠ peer 3 c := by revert c; decide

/-- The copies started and the peers' barriers signalled. -/
theorem part5_spec {Q : (Σ' (d0 : Dev nD) (v2 : BitVec 32), Sems sig S_) → sProp 𝕄} :
    iprop(records m K ∗ owing c (oweAll c)
      ∗ dutyTok ER (barCell (peer 1 c)) 0 c ∗ (∃ f, rsPt c (peer 1 c) f) ∗ (∃ f, agPt c (peer 1 c) fullShare f)
      ∗ dutyTok ER (barCell (peer 2 c)) 0 c ∗ (∃ f, rsPt c (peer 2 c) f) ∗ (∃ f, agPt c (peer 2 c) fullShare f)
      ∗ dutyTok ER (barCell (peer 3 c)) 0 c ∗ (∃ f, rsPt c (peer 3 c) f) ∗ (∃ f, agPt c (peer 3 c) fullShare f)
      ∗ bPt c main_arg0 (xA m c) ∗ (∃ f, bPt c cc0_scratch0 f) ∗ semVal ((c : Thread nD τ), .dma (⟨0, by decide⟩ : DmaSem sig)) 0
      ∗ bPt c main_arg1 (wqA m c) ∗ (∃ f, bPt c cc0_scratch1 f) ∗ semVal ((c : Thread nD τ), .dma (⟨1, by decide⟩ : DmaSem sig)) 0
      ∗ bPt c main_arg3 (wkA m c) ∗ (∃ f, bPt c cc0_scratch3 f) ∗ semVal ((c : Thread nD τ), .dma (⟨2, by decide⟩ : DmaSem sig)) 0
      ∗ bPt c main_arg4 (wvA m c) ∗ (∃ f, bPt c cc0_scratch4 f) ∗ semVal ((c : Thread nD τ), .dma (⟨3, by decide⟩ : DmaSem sig)) 0
      ∗ bPt c main_arg2 (woA m c) ∗ (∃ f, bPt c cc0_scratch2 f) ∗ semVal ((c : Thread nD τ), .dma (⟨4, by decide⟩ : DmaSem sig)) 0)
      ⊢ iprop((owing c (owe1 c)
      ∗ fl c (⟨0, by decide⟩ : DmaSem sig) nX main_arg0 cc0_scratch0 (xA m c) (xA m c)
      ∗ fl c (⟨1, by decide⟩ : DmaSem sig) nW main_arg1 cc0_scratch1 (wqA m c) (wqA m c)
      ∗ fl c (⟨2, by decide⟩ : DmaSem sig) nW main_arg3 cc0_scratch3 (wkA m c) (wkA m c)
      ∗ fl c (⟨3, by decide⟩ : DmaSem sig) nW main_arg4 cc0_scratch4 (wvA m c) (wvA m c)
      ∗ fl c (⟨4, by decide⟩ : DmaSem sig) nW main_arg2 cc0_scratch2 (woA m c) (woA m c)
          -∗ Q ⟨c, Scalar.remsi (Scalar.divsi (Dev.word c) 1#32) 4#32, SemArray.scalar (sig.barrier 0 rfl)⟩)
        -∗ wpB c (k0_part5 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14) Q) := by
  rw [k0_part5_eq_skeleton]; unfold k0_part5_skel wpB
  simp only [wp_bind]
  unfold oweAll
  iintro ⟨#HR, HO, Ht1, Hr1, Hg1, Ht2, Hr2, Hg2, Ht3, Hr3, Hg3, Ha0, ⟨%f0, Hb0⟩, Hv0, Ha1, ⟨%f1, Hb1⟩, Hv1, Ha2, ⟨%f2, Hb2⟩, Hv2, Ha3, ⟨%f3, Hb3⟩, Hv3, Ha4, ⟨%f4, Hb4⟩, Hv4⟩ Hk
  rw [show (Prog.lift TpuEff.deviceId : Prog (TpuEff nD τ sig (Elt F) Λ₀ .tc) _) = .op .deviceId .ret from rfl, wp_deviceId, wp_ret]; imodintro
  iapply (step_copy c (Memref.whole main_arg0) (Memref.whole cc0_scratch0) (⟨0, by decide⟩ : DmaSem sig) (by rfl) (xA m c) f0 (xA m c) (View.set_whole _) (View.set_whole _) nX rfl
    (View.dmaCredit_pos _ (by decide)) (View.write_whole_univ _ _ _)) $$ [Ha0 Hb0 Hv0]
  · isplitl [Ha0]; · iexact Ha0
    isplitl [Hb0]; · iexact Hb0
    iexact Hv0
  iintro Hf0
  iapply (step_copy c (Memref.whole main_arg1) (Memref.whole cc0_scratch1) (⟨1, by decide⟩ : DmaSem sig) (by rfl) (wqA m c) f1 (wqA m c) (View.set_whole _) (View.set_whole _) nW rfl
    (View.dmaCredit_pos _ (by decide)) (View.write_whole_univ _ _ _)) $$ [Ha1 Hb1 Hv1]
  · isplitl [Ha1]; · iexact Ha1
    isplitl [Hb1]; · iexact Hb1
    iexact Hv1
  iintro Hf1
  iapply (step_copy c (Memref.whole main_arg3) (Memref.whole cc0_scratch3) (⟨2, by decide⟩ : DmaSem sig) (by rfl) (wkA m c) f2 (wkA m c) (View.set_whole _) (View.set_whole _) nW rfl
    (View.dmaCredit_pos _ (by decide)) (View.write_whole_univ _ _ _)) $$ [Ha2 Hb2 Hv2]
  · isplitl [Ha2]; · iexact Ha2
    isplitl [Hb2]; · iexact Hb2
    iexact Hv2
  iintro Hf2
  iapply (step_copy c (Memref.whole main_arg4) (Memref.whole cc0_scratch4) (⟨3, by decide⟩ : DmaSem sig) (by rfl) (wvA m c) f3 (wvA m c) (View.set_whole _) (View.set_whole _) nW rfl
    (View.dmaCredit_pos _ (by decide)) (View.write_whole_univ _ _ _)) $$ [Ha3 Hb3 Hv3]
  · isplitl [Ha3]; · iexact Ha3
    isplitl [Hb3]; · iexact Hb3
    iexact Hv3
  iintro Hf3
  iapply (step_copy c (Memref.whole main_arg2) (Memref.whole cc0_scratch2) (⟨4, by decide⟩ : DmaSem sig) (by rfl) (woA m c) f4 (woA m c) (View.set_whole _) (View.set_whole _) nW rfl
    (View.dmaCredit_pos _ (by decide)) (View.write_whole_univ _ _ _)) $$ [Ha4 Hb4 Hv4]
  · isplitl [Ha4]; · iexact Ha4
    isplitl [Hb4]; · iexact Hb4
    iexact Hv4
  iintro Hf4
  iapply (step_signal m K c (peer 1 c) (ne_peer1 c) (Fin.ext (k0_dev1_eq c)) _) $$ [HO Ht1 Hr1 Hg1]
  · isplitr; · iexact HR
    isplitl [HO]; · iexact HO
    isplitl [Ht1]; · iexact Ht1
    isplitl [Hr1]; · iexact Hr1
    iexact Hg1
  iintro HO
  iapply (step_signal m K c (peer 2 c) (ne_peer2 c) (Fin.ext (k0_dev2_eq c)) _) $$ [HO Ht2 Hr2 Hg2]
  · isplitr; · iexact HR
    isplitl [HO]; · iexact HO
    isplitl [Ht2]; · iexact Ht2
    isplitl [Hr2]; · iexact Hr2
    iexact Hg2
  iintro HO
  iapply (step_signal m K c (peer 3 c) (ne_peer3 c) (Fin.ext (k0_dev3_eq c)) _) $$ [HO Ht3 Hr3 Hg3]
  · isplitr; · iexact HR
    isplitl [HO]; · iexact HO
    isplitl [Ht3]; · iexact Ht3
    isplitl [Hr3]; · iexact Hr3
    iexact Hg3
  iintro HO
  rw [show (pure (f := Prog (TpuEff nD τ sig (Elt F) Λ₀ .tc)) = Prog.ret) from rfl, wp_ret]; imodintro
  iapply Hk
  isplitl [HO]; · iexact HO
  isplitl [Hf0]; · iexact Hf0
  isplitl [Hf1]; · iexact Hf1
  isplitl [Hf2]; · iexact Hf2
  isplitl [Hf3]; · iexact Hf3
  iexact Hf4

/-- The operands but the last awaited, and the attention's ingredients computed from them. -/
theorem part6_spec {Q : (Σ' (v59 : FVec F S16x128x64 .bf16) (v63 : FVec F S16x128x1 .f32) (v64 : FVec F S16x128x128 .bf16), FVec F S16x128x64 .f32) → sProp 𝕄} :
    iprop(records m K ∗ owing c (owe1 c)
      ∗ fl c (⟨0, by decide⟩ : DmaSem sig) nX main_arg0 cc0_scratch0 (xA m c) (xA m c)
      ∗ fl c (⟨1, by decide⟩ : DmaSem sig) nW main_arg1 cc0_scratch1 (wqA m c) (wqA m c)
      ∗ fl c (⟨2, by decide⟩ : DmaSem sig) nW main_arg3 cc0_scratch3 (wkA m c) (wkA m c)
      ∗ fl c (⟨3, by decide⟩ : DmaSem sig) nW main_arg4 cc0_scratch4 (wvA m c) (wvA m c))
      ⊢ iprop((owing c (owe1 c)
      ∗ bPt c main_arg0 (xA m c) ∗ bPt c cc0_scratch0 (xA m c) ∗ semVal ((c : Thread nD τ), .dma (⟨0, by decide⟩ : DmaSem sig)) 0
      ∗ bPt c main_arg1 (wqA m c) ∗ bPt c cc0_scratch1 (wqA m c) ∗ semVal ((c : Thread nD τ), .dma (⟨1, by decide⟩ : DmaSem sig)) 0
      ∗ bPt c main_arg3 (wkA m c) ∗ bPt c cc0_scratch3 (wkA m c) ∗ semVal ((c : Thread nD τ), .dma (⟨2, by decide⟩ : DmaSem sig)) 0
      ∗ bPt c main_arg4 (wvA m c) ∗ bPt c cc0_scratch4 (wvA m c) ∗ semVal ((c : Thread nD τ), .dma (⟨3, by decide⟩ : DmaSem sig)) 0
          -∗ Q ⟨k0_pay10 (xA m c) (wvA m c), k0_pay12 (xA m c) (wqA m c) (wkA m c), k0_pay13 (xA m c) (wqA m c) (wkA m c), constant S16x128x64 .f32 0x00000000#32⟩)
        -∗ wpB c (k0_part6 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14) Q) := by
  rw [k0_part6_eq_skeleton]; unfold k0_part6_skel wpB
  simp only [wp_bind]
  iintro ⟨#HR, HO, Hf0, Hf1, Hf2, Hf3⟩ Hk
  iapply (step_landed m K c (⟨0, by decide⟩ : DmaSem sig) (src := Memref.whole main_arg0) (dst := Memref.whole cc0_scratch0) (by rfl) nX rfl ((above_owe1 c).mono (Nat.zero_le 1))) $$ [Hf0 HO]
  · isplitr; · iexact HR
    isplitl [Hf0]; · iexact Hf0
    iexact HO
  iintro ⟨⟨Hb0, Ha0⟩, Hv0, HO⟩
  iapply (step_landed m K c (⟨1, by decide⟩ : DmaSem sig) (src := Memref.whole main_arg1) (dst := Memref.whole cc0_scratch1) (by rfl) nW rfl ((above_owe1 c).mono (Nat.zero_le 1))) $$ [Hf1 HO]
  · isplitr; · iexact HR
    isplitl [Hf1]; · iexact Hf1
    iexact HO
  iintro ⟨⟨Hb1, Ha1⟩, Hv1, HO⟩
  iapply (load_w0 c (xA m c)) $$ Hb0
  iintro Hb0
  iapply (load_w1 c (wqA m c)) $$ Hb1
  iintro Hb1
  iapply (step_landed m K c (⟨2, by decide⟩ : DmaSem sig) (src := Memref.whole main_arg3) (dst := Memref.whole cc0_scratch3) (by rfl) nW rfl ((above_owe1 c).mono (Nat.zero_le 1))) $$ [Hf2 HO]
  · isplitr; · iexact HR
    isplitl [Hf2]; · iexact Hf2
    iexact HO
  iintro ⟨⟨Hb2, Ha2⟩, Hv2, HO⟩
  iapply (load_w3 c (wkA m c)) $$ Hb2
  iintro Hb2
  iapply (step_landed m K c (⟨3, by decide⟩ : DmaSem sig) (src := Memref.whole main_arg4) (dst := Memref.whole cc0_scratch4) (by rfl) nW rfl ((above_owe1 c).mono (Nat.zero_le 1))) $$ [Hf3 HO]
  · isplitr; · iexact HR
    isplitl [Hf3]; · iexact Hf3
    iexact HO
  iintro ⟨⟨Hb3, Ha3⟩, Hv3, HO⟩
  iapply (load_w4 c (wvA m c)) $$ Hb3
  iintro Hb3
  rw [show (pure (f := Prog (TpuEff nD τ sig (Elt F) Λ₀ .tc)) = Prog.ret) from rfl, wp_ret]; imodintro
  iapply Hk
  isplitl [HO]; · iexact HO
  isplitl [Ha0]; · iexact Ha0
  isplitl [Hb0]; · iexact Hb0
  isplitl [Hv0]; · iexact Hv0
  isplitl [Ha1]; · iexact Ha1
  isplitl [Hb1]; · iexact Hb1
  isplitl [Hv1]; · iexact Hv1
  isplitl [Ha2]; · iexact Ha2
  isplitl [Hb2]; · iexact Hb2
  isplitl [Hv2]; · iexact Hv2
  isplitl [Ha3]; · iexact Ha3
  isplitl [Hb3]; · iexact Hb3
  iexact Hv3

end Parts

end Cert.Ring
-- ==== Proof.PartsB.lean ====
/-
# The chunks sent

Stage 7 of a device's body. Its code branches on the device; each branch stores the partial output's four chunks and
sends three of them to the peers.
-/
module

public import proofs.«01_k».proof.Proof.PartsA

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Parts
variable (K : Dev nD × Kd → ℕ) (c : Dev nD)

/-- What stage 7 needs. -/
def pre7 : sProp 𝕄 := iprop(owing c (owe1 c) ∗ fl c (⟨4, by decide⟩ : DmaSem sig) nW main_arg2 cc0_scratch2 (woA m c) (woA m c)
    ∗ cred (tallyAt (barCell c) () 3) ∗ atPos ER (barCell c) 0 ∅ 0
    ∗ (∃ f, sbPt c (peer 1 c) f) ∗ dutyTok ER (dCell 0 (peer 1 c) c) 0 c ∗ dutyTok ER (dCell 1 c (peer 1 c)) 0 (peer 1 c)
    ∗ (∃ f, sbPt c (peer 2 c) f) ∗ dutyTok ER (dCell 0 (peer 2 c) c) 0 c ∗ dutyTok ER (dCell 1 c (peer 2 c)) 0 (peer 2 c)
    ∗ (∃ f, sbPt c (peer 3 c) f) ∗ dutyTok ER (dCell 0 (peer 3 c) c) 0 c ∗ dutyTok ER (dCell 1 c (peer 3 c)) 0 (peer 3 c)
    ∗ (∃ f, sbPt c c f) ∗ (∃ f, rsPt c c f))

/-- What it leaves. -/
def post7 : sProp 𝕄 := iprop(owing c (owe3 c) ∗ bPt c main_arg2 (woA m c) ∗ bPt c cc0_scratch2 (woA m c)
    ∗ semVal ((c : Thread nD τ), .dma (⟨4, by decide⟩ : DmaSem sig)) 0 ∗ atPos ER (barCell c) (0 + 1) ∅ 0
    ∗ cred (tallyAt (dCell 0 (peer 1 c) c) () N) ∗ (∃ f, agPt (peer 1 c) c fullShare f)
    ∗ cred (tallyAt (dCell 0 (peer 2 c) c) () N) ∗ (∃ f, agPt (peer 2 c) c fullShare f)
    ∗ cred (tallyAt (dCell 0 (peer 3 c) c) () N) ∗ (∃ f, agPt (peer 3 c) c fullShare f)
    ∗ (∃ f, sbPt c c f) ∗ rsPt c c (rsC m c))

set_option maxHeartbeats 4000000 in
/-- Stage 7 at any device. -/
theorem part7_spec (v2 : BitVec 32) {Q : PUnit → sProp 𝕄} : iprop(records m K ∗ pre7 m c) ⊢ iprop((post7 m c -∗ Q ⟨⟩)
    -∗ wpB c (k0_part7 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c v2 (SemArray.scalar (sig.barrier 0 rfl))
      (k0_pay10 (xA m c) (wvA m c)) (k0_pay12 (xA m c) (wqA m c) (wkA m c)) (k0_pay13 (xA m c) (wqA m c) (wkA m c))
      (constant S16x128x64 .f32 0x00000000#32)) Q) := by
  rw [k0_part7_eq_skeleton]; unfold k0_part7_skel wpB
  simp only [wp_bind]
  unfold pre7 post7
  iintro ⟨#HR, HO, Hf, Hcr, Hat, ⟨%f1, Hs1⟩, Ht1, Hu1, ⟨%f2, Hs2⟩, Ht2, Hu2, ⟨%f3, Hs3⟩, Ht3, Hu3, ⟨%f0, Hs0⟩, ⟨%g0, Hr0⟩⟩ Hk
  iapply (step_landed m K c (⟨4, by decide⟩ : DmaSem sig) (src := Memref.whole main_arg2) (dst := Memref.whole cc0_scratch2) (by rfl) nW rfl ((above_owe1 c).mono (Nat.zero_le 1))) $$ [Hf HO]
  · isplitr; · iexact HR
    isplitl [Hf]; · iexact Hf
    iexact HO
  iintro ⟨⟨Hb, Ha⟩, Hv, HO⟩
  iapply (load_w2 c (woA m c)) $$ Hb
  iintro Hb
  iapply (step_barrier m K c (above_owe1 c)) $$ [Hcr HO Hat]
  · isplitr; · iexact HR
    isplitl [Hcr]; · iexact Hcr
    isplitl [HO]; · iexact HO
    iexact Hat
  iintro ⟨HO, Hat, Hp1, Hp2, Hp3⟩
  unfold payOf
  icases Hp1 with ⟨Hd1, Hg1⟩
  icases Hp2 with ⟨Hd2, Hg2⟩
  icases Hp3 with ⟨Hd3, Hg3⟩
  unfold owe1
  have hc : c = 0 ∨ c = 1 ∨ c = 2 ∨ c = 3 := by revert c; decide
  rcases hc with hc | hc | hc | hc
  all_goals
    try rw [dif_neg (show ¬ k0_cond1 c = 1#1 by subst hc; decide)]
    first
      | (rw [dif_pos (show k0_cond1 c = 1#1 by subst hc; decide), k0_part1_eq_skeleton]; unfold k0_part1_skel)
      | (rw [dif_pos (show k0_cond2 c = 1#1 by subst hc; decide), k0_part2_eq_skeleton]; unfold k0_part2_skel)
      | (rw [dif_neg (show ¬ k0_cond2 c = 1#1 by subst hc; decide), dif_pos (show k0_cond3 c = 1#1 by subst hc; decide),
          k0_part3_eq_skeleton]; unfold k0_part3_skel)
      | (rw [dif_neg (show ¬ k0_cond2 c = 1#1 by subst hc; decide), dif_neg (show ¬ k0_cond3 c = 1#1 by subst hc; decide),
          dif_pos (show k0_cond4 c = 1#1 by subst hc; decide), k0_part4_eq_skeleton]; unfold k0_part4_skel)
    simp only [wp_bind]
    iapply (load_sb c (peer 1 c) (by subst hc; rfl) f1) $$ Hs1
    iintro Hs1
    iapply (store_sb c (peer 1 c) (by subst hc; rfl) f1 _ (fun s => chunk m c s) (by subst hc; rfl)) $$ Hs1
    iintro Hs1
    iapply (step_scatter m K c (peer 1 c) (by subst hc; decide) (by subst hc; rfl) (by subst hc; rfl) (by subst hc; rfl) (sem_rsS (peer 1 c) (by subst hc; rfl)) (sem_rsR c (by subst hc; rfl)) _) $$ [Hs1 Hd1 HO Ht1 Hu1]
    · isplitr; · iexact HR
      isplitl [Hs1]; · iexact Hs1
      isplitl [Hd1]; · iexact Hd1
      isplitl [HO]; · iexact HO
      isplitl [Ht1]; · iexact Ht1
      iexact Hu1
    iintro ⟨Hc1, HO⟩
    iapply (load_sb c (peer 2 c) (by subst hc; rfl) f2) $$ Hs2
    iintro Hs2
    iapply (store_sb c (peer 2 c) (by subst hc; rfl) f2 _ (fun s => chunk m c s) (by subst hc; rfl)) $$ Hs2
    iintro Hs2
    rw [show (pure (f := Prog (TpuEff nD τ sig (Elt F) Λ₀ .tc)) = Prog.ret) from rfl, wp_ret]; imodintro
    iapply (step_scatter m K c (peer 2 c) (by subst hc; decide) (by subst hc; rfl) (by subst hc; rfl) (by subst hc; rfl) (sem_rsS (peer 2 c) (by subst hc; rfl)) (sem_rsR c (by subst hc; rfl)) _) $$ [Hs2 Hd2 HO Ht2 Hu2]
    · isplitr; · iexact HR
      isplitl [Hs2]; · iexact Hs2
      isplitl [Hd2]; · iexact Hd2
      isplitl [HO]; · iexact HO
      isplitl [Ht2]; · iexact Ht2
      iexact Hu2
    iintro ⟨Hc2, HO⟩
    iapply (load_sb c (peer 3 c) (by subst hc; rfl) f3) $$ Hs3
    iintro Hs3
    iapply (store_sb c (peer 3 c) (by subst hc; rfl) f3 _ (fun s => chunk m c s) (by subst hc; rfl)) $$ Hs3
    iintro Hs3
    iapply (step_scatter m K c (peer 3 c) (by subst hc; decide) (by subst hc; rfl) (by subst hc; rfl) (by subst hc; rfl) (sem_rsS (peer 3 c) (by subst hc; rfl)) (sem_rsR c (by subst hc; rfl)) _) $$ [Hs3 Hd3 HO Ht3 Hu3]
    · isplitr; · iexact HR
      isplitl [Hs3]; · iexact Hs3
      isplitl [Hd3]; · iexact Hd3
      isplitl [HO]; · iexact HO
      isplitl [Ht3]; · iexact Ht3
      iexact Hu3
    iintro ⟨Hc3, HO⟩
    iapply (load_sb c c (by subst hc; rfl) f0) $$ Hs0
    iintro Hs0
    iapply (store_sb c c (by subst hc; rfl) f0 _ (fun s => chunk m c s) (by subst hc; rfl)) $$ Hs0
    iintro Hs0
    iapply (load_rs c c (by subst hc; rfl) g0) $$ Hr0
    iintro Hr0
    iapply (store_rs c c (by subst hc; rfl) g0 _ (fun s => chunk m s c) (by subst hc; rfl)) $$ Hr0
    iintro Hr0
    try rw [dif_neg (show ¬ k0_cond2 c = 1#1 by subst hc; decide)]
    try rw [dif_neg (show ¬ k0_cond3 c = 1#1 by subst hc; decide)]
    try rw [dif_neg (show ¬ k0_cond4 c = 1#1 by subst hc; decide)]
    try rw [show (pure (f := Prog (TpuEff nD τ sig (Elt F) Λ₀ .tc)) = Prog.ret) from rfl]
    repeat (rw [wp_ret]; imodintro)
    iapply Hk
    isplitl [HO]; · iexact HO
    isplitl [Ha]; · iexact Ha
    isplitl [Hb]; · iexact Hb
    isplitl [Hv]; · iexact Hv
    isplitl [Hat]; · iexact Hat
    isplitl [Hc1]; · iexact Hc1
    isplitl [Hg1]; · iexact Hg1
    isplitl [Hc2]; · iexact Hc2
    isplitl [Hg2]; · iexact Hg2
    isplitl [Hc3]; · iexact Hc3
    isplitl [Hg3]; · iexact Hg3
    isplitl [Hs0]; · iexists _; iexact Hs0
    iexact Hr0

end Parts

end Cert.Ring
-- ==== Proof.PartsC.lean ====
/-
# The sums and the gather

Stages 8 to 12 of a device's body and its end: the chunks awaited and added, the sum sent to every peer, the peers' sums
awaited, the result put together, the sends awaited, the result copied out.
-/
module

public import proofs.«01_k».proof.Proof.PartsB

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Every slot, as seen from a device -/

/-- A statement for every slot is the statement for the device's own slot and its three peers'. -/
theorem around (c : Dev nD) (Φ : Dev nD → sProp 𝕄) : bigSep Finset.univ Φ = iprop(Φ c ∗ Φ (peer 1 c) ∗ Φ (peer 2 c) ∗ Φ (peer 3 c)) :=
  bigSep_univ_eq_bigSepL [c, peer 1 c, peer 2 c, peer 3 c] (by revert c; decide) (by revert c; decide) Φ
/-- A statement for every slot is four statements. -/
theorem four (Φ : Dev nD → sProp 𝕄) : bigSep Finset.univ Φ = iprop(Φ 0 ∗ Φ 1 ∗ Φ 2 ∗ Φ 3) :=
  bigSep_univ_eq_bigSepL [0, 1, 2, 3] (by decide) (by decide) Φ
/-- From one list of the slots to the other. -/
theorem turn (c : Dev nD) (Φ : Dev nD → sProp 𝕄) : iprop(Φ c ∗ Φ (peer 1 c) ∗ Φ (peer 2 c) ∗ Φ (peer 3 c)) = iprop(Φ 0 ∗ Φ 1 ∗ Φ 2 ∗ Φ 3) :=
  (around c Φ).symm.trans (four Φ)

/-- A slot of the gather buffer at the shares lent to the three peers' transfers. -/
def agRest (c s : Dev nD) : sProp 𝕄 :=
  iprop(agPt c s (lend (peer 1 c)) (agC m) ∗ agPt c s (lend (peer 2 c)) (agC m) ∗ agPt c s (lend (peer 3 c)) (agC m))
/-- A slot of the gather buffer, owned whole, is the slot at four equal shares. -/
theorem leaf_slots (c s : Dev nD) (f : BufVec F) :
    agPt c s fullShare f = bigSep (Finset.univ : Finset (Fin (2 ^ 2))) fun t => agPt c s (ShareLeaves.leaf 2 fullShare t) f := by
  unfold agPt
  exact ShareLeaves.pointsTo_leaves (ℓ := (c : Thread nD τ).loc cc0_scratch7) (slotSet s) f 2 fullShare
/-- Numbering four shares by another name for four changes nothing. -/
theorem cast_slots {n : ℕ} (h : n = 4) (Φ : Fin 4 → sProp 𝕄) : bigSep (Finset.univ : Finset (Fin n)) (fun t => Φ (Fin.cast h t)) = bigSep Finset.univ Φ := by
  subst h; rfl
/-- The share lent to a device is the share of that number. -/
theorem lend_cast (t : Fin (2 ^ 2)) : lend (Fin.cast (by decide) t) = ShareLeaves.leaf 2 fullShare t :=
  congrArg (ShareLeaves.leaf 2 fullShare) (Fin.ext (by rfl))
/-- A slot of the gather buffer, whole, is the share device `c` keeps and the shares it lends. -/
theorem agPt_lend (c s : Dev nD) : agPt c s fullShare (agC m) = iprop(agPt c s (lend c) (agC m) ∗ agRest m c s) := by
  have e : (bigSep (Finset.univ : Finset (Fin (2 ^ 2))) fun t => agPt c s (ShareLeaves.leaf 2 fullShare t) (agC m))
      = bigSep (Finset.univ : Finset (Fin (2 ^ 2))) fun t => agPt c s (lend (Fin.cast (by decide) t)) (agC m) :=
    bigSep_congr fun t _ => congrArg (fun q => agPt c s q (agC m)) (lend_cast t).symm
  unfold agRest
  exact (leaf_slots c s (agC m)).trans (e.trans ((cast_slots (by decide) fun t => agPt c s (lend t) (agC m)).trans (around c fun t => agPt c s (lend t) (agC m))))

/-- Slot `s` of the filled landing buffer is device `s`'s chunk. -/
theorem rsC_at (c s : Dev nD) : (fun x => rsC m c ((slotR s).emb x)) = chunk m s c := funext fun x => slots_emb (fun s => chunk m s c) s x
/-- Slot `s` of the filled gather buffer is sum `s`. -/
theorem agC_at (s : Dev nD) : (fun x => agC m ((slotR s).emb x)) = red m s := funext fun x => slots_emb (fun s => red m s) s x

/-! ## The result -/

/-- Which sum a row of the result comes from. -/
def blk (i : S2x128x512.Idx) : Dev nD := ⟨2 * (i 0).val + (i 1).val / 64, by
  have h0 : (i 0).val < 2 := (i 0).isLt
  have h1 : (i 1).val < 128 := (i 1).isLt
  show _ < 4; omega⟩
/-- And where in the sum it lies. -/
def rowIn (i : S2x128x512.Idx) : S1x64x512.Idx := fun a => match a with
  | ⟨0, _⟩ => (0 : Fin 1)
  | ⟨1, _⟩ => (⟨(i 1).val % 64, Nat.mod_lt _ (by decide)⟩ : Fin 64)
  | ⟨2, _⟩ => i 2

/-- The kernel's result: rows `64 s … 64 s + 63` of the 256 are sum `s`. -/
def outC : Vec F S2x128x512 .bf16 := fun i => red m (blk i) (rowIn i)

/-- The result buffer with its first `j` blocks in place. -/
def outPt (c : Dev nD) (j : ℕ) : sProp 𝕄 := iprop(∃ f, ⌜∀ i, (blk i).val < j → f i = outC m i⌝ ∗ bPt c cc0_scratch8 f)

/-- The result's buffer. -/
abbrev outM : Memref sig .tc .vmem S2x128x512 .bf16 := Memref.whole cc0_scratch8
/-- The rows block `k` fills. -/
abbrev outR (k : Dev nD) : Rect S2x128x512 := Rect.unit (s := S2x128x512) ![k.val / 2, 64 * (k.val % 2), 0] S1x64x512.size (by revert k; decide)

/-- An index of the result, found from its block and its place in the block, is itself. -/
theorem out_emb (i : S2x128x512.Idx) : (outR (blk i)).emb (rowIn i) = i := by
  have h1 : (i 1).val < 128 := (i 1).isLt
  refine funext fun a => Fin.ext ?_
  match a with
  | ⟨0, _⟩ => show (2 * (i 0).val + (i 1).val / 64) / 2 + 1 * 0 = (i 0).val; omega
  | ⟨1, _⟩ => show 64 * ((2 * (i 0).val + (i 1).val / 64) % 2) + 1 * ((i 1).val % 64) = (i 1).val; omega
  | ⟨2, _⟩ => show 0 + 1 * (i 2).val = (i 2).val; omega

/-- The rows of block `k` belong to block `k`. -/
theorem blk_emb (k : Dev nD) (x : S1x64x512.Idx) : blk ((outR k).emb x) = k := by
  have hk : k.val < 4 := k.isLt
  have h0 : (x 0).val < 1 := (x 0).isLt
  have h1 : (x 1).val < 64 := (x 1).isLt
  refine Fin.ext ?_
  show 2 * (k.val / 2 + 1 * (x 0).val) + (64 * (k.val % 2) + 1 * (x 1).val) / 64 = k.val
  omega

section Loads
variable (c : Dev nD)

/-- Reading slot `s` of the filled landing buffer gives device `s`'s chunk. -/
theorem read_rs {QL : (S1x64x512.Idx → Elt F .bf16) → sProp 𝕄} {o : Fin 3 → ℕ} {inb} (s : Dev nD) (ho : o = ![s.val, 0, 0]) {hl} : rsPt c s (rsC m c) ⊢ iprop((rsPt c s (rsC m c) -∗ QL (chunk m s c))
    -∗ wpB c (Prog.lift (.load rsM (Rect.unit (s := S4x64x512) o S1x64x512.size inb).toLoadRect hl)) QL) := by
  have h : ∀ w : S1x64x512.Idx → Elt F .bf16, (fun x : S1x64x512.Idx => rsC m c ((slotR s).emb x)) = w →
      (rsPt c s (rsC m c) ⊢ iprop((rsPt c s (rsC m c) -∗ QL w) -∗ wpB c (Prog.lift (.load rsM (Rect.unit (s := S4x64x512) o S1x64x512.size inb).toLoadRect hl)) QL)) :=
    fun w hw => hw ▸ load_rs c s ho (rsC m c)
  exact h _ (rsC_at m c s)

/-- Reading slot `s` of the filled gather buffer gives sum `s`. -/
theorem read_ag {QL : (S1x64x512.Idx → Elt F .bf16) → sProp 𝕄} {o : Fin 3 → ℕ} {inb} (s : Dev nD) (ho : o = ![s.val, 0, 0]) {hl} (q : PosShare TreeShare) : agPt c s q (agC m) ⊢ iprop((agPt c s q (agC m) -∗ QL (red m s))
    -∗ wpB c (Prog.lift (.load agM (Rect.unit (s := S4x64x512) o S1x64x512.size inb).toLoadRect hl)) QL) := by
  have h : ∀ w : S1x64x512.Idx → Elt F .bf16, (fun x : S1x64x512.Idx => agC m ((slotR s).emb x)) = w →
      (agPt c s q (agC m) ⊢ iprop((agPt c s q (agC m) -∗ QL w) -∗ wpB c (Prog.lift (.load agM (Rect.unit (s := S4x64x512) o S1x64x512.size inb).toLoadRect hl)) QL)) :=
    fun w hw => hw ▸ load_ag c s ho q (agC m)
  exact h _ (agC_at m s)
end Loads

section Out
variable (c : Dev nD)

/-- A read of the result's buffer leaves it as it was. -/
theorem load_out {o : Fin 3 → ℕ} {inb hl} (j : ℕ) {QL : (S1x64x512.Idx → Elt F .bf16) → sProp 𝕄} :
    outPt m c j ⊢ iprop((∀ x, outPt m c j -∗ QL x) -∗ wpB c (Prog.lift (.load outM (Rect.unit (s := S2x128x512) o S1x64x512.size inb).toLoadRect hl)) QL) := by
  unfold outPt
  iintro ⟨%f, %hf, Hb⟩ Hk
  have h : bPt c cc0_scratch8 f ⊢ iprop((bPt c cc0_scratch8 f
        -∗ wpB c (.ret (outM.view.readAt (Elt F) (Rect.unit (s := S2x128x512) o S1x64x512.size inb).toLoadRect f) : Prog (TpuEff nD τ sig (Elt F) Λ₀ .tc) (S1x64x512.Idx → Elt F .bf16)) QL)
      -∗ wpB c (Prog.lift (.load outM (Rect.unit (s := S2x128x512) o S1x64x512.size inb).toLoadRect hl)) QL) :=
    wp_load 𝒱₀ (c : Thread nD τ) none Set.univ (m := outM) (S := Finset.univ) (Finset.subset_univ _)
  iapply h $$ Hb
  iintro Hb
  unfold wpB
  rw [wp_ret]; imodintro
  iapply Hk
  iexists f
  isplitr; · ipureintro; exact hf
  iexact Hb

/-- Storing sum `k` in block `k`, when the first `k` blocks are in place, puts one more block in place. -/
theorem store_out (k : Dev nD) {o : Fin 3 → ℕ} {inb hx hm} (ho : o = ![k.val / 2, 64 * (k.val % 2), 0]) (w : SlotVec F) (hw : w = red m k) {j : ℕ} (hj : j = k.val) {Q : PUnit → sProp 𝕄} :
    outPt m c j ⊢ iprop((outPt m c (j + 1) -∗ Q ⟨⟩)
      -∗ wpB c (Prog.lift (.store outM (Rect.unit (s := S2x128x512) o S1x64x512.size inb) w Finset.univ hx hm)) Q) := by
  subst ho hw hj; unfold outPt
  iintro ⟨%f, %hf, Hb⟩ Hk
  iapply (wp_store 𝒱₀ (c : Thread nD τ) none Set.univ (m := outM) (r := outR k) (Mk := Finset.univ) (S := Finset.univ) (Finset.subset_univ _)) $$ Hb
  iintro Hb
  rw [wp_ret]; imodintro
  iapply Hk
  iexists _
  isplitr [Hb]
  swap; · iexact Hb
  ipureintro
  intro i hi
  by_cases hb : blk i = k
  · have e : (outM.access (outR k)).emb (rowIn i) = i := by rw [← hb]; exact out_emb i
    conv_lhs => rw [← e]
    refine (View.write_emb_of_mem (v := outM.access (outR k)) f _ (Finset.mem_univ _)).trans ?_
    show red m k (rowIn i) = red m (blk i) (rowIn i)
    rw [hb]
  · have hn : i ∉ (outM.access (outR k)).setOn Finset.univ := fun h => by
      obtain ⟨x, -, hx'⟩ := Finset.mem_map.mp h
      exact hb (by rw [← hx']; exact blk_emb k x)
    refine (View.write_of_not_mem (v := outM.access (outR k)) f _ _ hn).trans (hf i ?_)
    have : (blk i).val ≠ k.val := fun h => hb (Fin.ext h)
    omega
end Out

section Parts
variable (K : Dev nD × Kd → ℕ) (c : Dev nD)

/-- The first peer is not the device itself, -/
theorem peer_ne1 : peer 1 c ≠ c := by revert c; decide
/-- nor is the second, -/
theorem peer_ne2 : peer 2 c ≠ c := by revert c; decide
/-- nor the third. -/
theorem peer_ne3 : peer 3 c ≠ c := by revert c; decide

/-- One place back on the ring is the third peer. -/
theorem off1_1 : k0_off1 c 1#32 = ![(peer 3 c).val] := k0_off1_eq c 0
/-- Two places back is the second peer. -/
theorem off1_2 : k0_off1 c 2#32 = ![(peer 2 c).val] := (k0_off1_eq c 1).trans (by revert c; decide)
/-- Three places back is the first. -/
theorem off1_3 : k0_off1 c 3#32 = ![(peer 1 c).val] := (k0_off1_eq c 2).trans (by revert c; decide)
/-- One place on is the first peer, -/
theorem off4_1 : k0_off4 c 1#32 = ![(peer 1 c).val] := (k0_off4_eq c 0).trans (by revert c; decide)
/-- two places on the second, -/
theorem off4_2 : k0_off4 c 2#32 = ![(peer 2 c).val] := (k0_off4_eq c 1).trans (by revert c; decide)
/-- three places on the third. -/
theorem off4_3 : k0_off4 c 3#32 = ![(peer 3 c).val] := (k0_off4_eq c 2).trans (by revert c; decide)

/-- A gather or landing semaphore's turn: its credit, and its round not yet taken. -/
abbrev due (f : Fin 4) (s c : Dev nD) : sProp 𝕄 := iprop(cred (tallyAt (dCell f s c) () N) ∗ atPos ER (dCell f s c) 0 ∅ 0)
/-- A slot semaphore whose round has been taken. -/
abbrev took (f : Fin 4) (s c : Dev nD) : sProp 𝕄 := atPos ER (dCell f s c) (0 + 1) ∅ 0

/-- The peers' chunks awaited; the first two chunks read. -/
theorem part8_spec (v2 : BitVec 32) {Q : (Σ' (v125 : FVec F S64x512 .f32), FVec F S64x512 .f32) → sProp 𝕄} :
    iprop(records m K ∗ owing c (owe3 c) ∗ rsPt c c (rsC m c) ∗ due 1 (peer 1 c) c ∗ due 1 (peer 2 c) c ∗ due 1 (peer 3 c) c)
      ⊢ iprop((owing c (owe3 c) ∗ (took 1 (peer 1 c) c ∗ took 1 (peer 2 c) c ∗ took 1 (peer 3 c) c)
          ∗ (rsPt c 0 (rsC m c) ∗ rsPt c 1 (rsC m c) ∗ rsPt c 2 (rsC m c) ∗ rsPt c 3 (rsC m c))
          -∗ Q ⟨k0_pay32 (chunk m 0 c), k0_pay33 (chunk m 1 c)⟩)
        -∗ wpB c (k0_part8 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c v2) Q) := by
  rw [k0_part8_eq_skeleton]; unfold k0_part8_skel wpB
  simp only [wp_bind]
  iintro ⟨#HR, HO, Hrc, ⟨Hq11, Hp11⟩, ⟨Hq12, Hp12⟩, ⟨Hq13, Hp13⟩⟩ Hk
  iapply (step_wait m K c 1 (peer 3 c) (peer_ne3 c) (sem_rsR (peer 3 c) (off1_1 c)) credit_rs (above_owe3 c)) $$ [Hq13 Hp13 HO]
  · isplitr; · iexact HR
    isplitl [Hq13]; · iexact Hq13
    isplitl [HO]; · iexact HO
    iexact Hp13
  iintro ⟨HO, Hp13, Hr3⟩
  iapply (step_wait m K c 1 (peer 2 c) (peer_ne2 c) (sem_rsR (peer 2 c) (off1_2 c)) credit_rs (above_owe3 c)) $$ [Hq12 Hp12 HO]
  · isplitr; · iexact HR
    isplitl [Hq12]; · iexact Hq12
    isplitl [HO]; · iexact HO
    iexact Hp12
  iintro ⟨HO, Hp12, Hr2⟩
  iapply (step_wait m K c 1 (peer 1 c) (peer_ne1 c) (sem_rsR (peer 1 c) (off1_3 c)) credit_rs (above_owe3 c)) $$ [Hq11 Hp11 HO]
  · isplitr; · iexact HR
    isplitl [Hq11]; · iexact Hq11
    isplitl [HO]; · iexact HO
    iexact Hp11
  iintro ⟨HO, Hp11, Hr1⟩
  unfold payOf
  ihave Hr := (Entails.of_eq (turn c fun s => rsPt c s (rsC m c))) $$ [Hrc Hr1 Hr2 Hr3]
  · isplitl [Hrc]; · iexact Hrc
    isplitl [Hr1]; · iexact Hr1
    isplitl [Hr2]; · iexact Hr2
    iexact Hr3
  icases Hr with ⟨Hs0, Hs1, Hs2, Hs3⟩
  iapply (read_rs m c 0 (by rfl)) $$ Hs0
  iintro Hs0
  iapply (read_rs m c 1 (by rfl)) $$ Hs1
  iintro Hs1
  try rw [show (pure (f := Prog (TpuEff nD τ sig (Elt F) Λ₀ .tc)) = Prog.ret) from rfl]
  repeat (rw [wp_ret]; imodintro)
  iapply Hk
  isplitl [HO]; · iexact HO
  isplitl [Hp11 Hp12 Hp13]
  · isplitl [Hp11]; · iexact Hp11
    isplitl [Hp12]; · iexact Hp12
    iexact Hp13
  isplitl [Hs0]; · iexact Hs0
  isplitl [Hs1]; · iexact Hs1
  isplitl [Hs2]; · iexact Hs2
  iexact Hs3

/-- The other two chunks read; the sum stored and sent to the next device. -/
theorem part9_spec (v2 : BitVec 32) {Q : PUnit → sProp 𝕄} :
    iprop(records m K ∗ owing c (owe3 c) ∗ rsPt c 2 (rsC m c) ∗ rsPt c 3 (rsC m c) ∗ (∃ f, agPt c c fullShare f) ∗ (∃ f, agPt (peer 1 c) c fullShare f)
        ∗ dutyTok ER (dCell 2 (peer 1 c) c) 0 c ∗ dutyTok ER (dCell 3 c (peer 1 c)) 0 (peer 1 c))
      ⊢ iprop((owing c (tallyAt (dCell 3 c (peer 3 c)) () N + tallyAt (dCell 3 c (peer 2 c)) () N) ∗ cred (tallyAt (dCell 2 (peer 1 c) c) () N)
          ∗ rsPt c 2 (rsC m c) ∗ rsPt c 3 (rsC m c) ∗ agPt c c (lend c) (agC m) ∗ agPt c c (lend (peer 2 c)) (agC m) ∗ agPt c c (lend (peer 3 c)) (agC m)
          -∗ Q ⟨⟩)
        -∗ wpB c (k0_part9 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c v2 (k0_pay32 (chunk m 0 c)) (k0_pay33 (chunk m 1 c))) Q) := by
  rw [k0_part9_eq_skeleton]; unfold k0_part9_skel wpB
  simp only [wp_bind]
  unfold owe3
  iintro ⟨#HR, HO, Hs2, Hs3, ⟨%g, Hg⟩, Hg1, Ht1, Hu1⟩ Hk
  iapply (read_rs m c 2 (by rfl)) $$ Hs2
  iintro Hs2
  iapply (read_rs m c 3 (by rfl)) $$ Hs3
  iintro Hs3
  iapply (load_ag c c (k0_off3_eq c) fullShare g) $$ Hg
  iintro Hg
  iapply (store_ag c c (k0_off3_eq c) g _ (fun s => red m s) (by rfl)) $$ Hg
  iintro Hg
  ihave Hg := (Entails.of_eq (show agPt c c fullShare (slots fun s => red m s) = _ from agPt_lend m c c)) $$ Hg
  unfold agRest
  icases Hg with ⟨Hlc, Hl1, Hl2, Hl3⟩
  iapply (step_gather m K c (peer 1 c) (peer_ne1 c) (k0_off6_eq c) (k0_off6_eq c) (Fin.ext (k0_dev16_eq c)) (sem_agS (peer 1 c) (off4_1 c)) (sem_agR c (k0_off5_eq c)) _) $$ [Hl1 Hg1 HO Ht1 Hu1]
  · isplitr; · iexact HR
    isplitl [Hl1]; · iexact Hl1
    isplitl [Hg1]; · iexact Hg1
    isplitl [HO]; · iexact HO
    isplitl [Ht1]; · iexact Ht1
    iexact Hu1
  iintro ⟨Hc1, HO⟩
  try rw [show (pure (f := Prog (TpuEff nD τ sig (Elt F) Λ₀ .tc)) = Prog.ret) from rfl]
  repeat (rw [wp_ret]; imodintro)
  iapply Hk
  isplitl [HO]; · iexact HO
  isplitl [Hc1]; · iexact Hc1
  isplitl [Hs2]; · iexact Hs2
  isplitl [Hs3]; · iexact Hs3
  isplitl [Hlc]; · iexact Hlc
  isplitl [Hl2]; · iexact Hl2
  iexact Hl3

/-- The sum sent to the other two peers; the first peer's sum awaited. -/
theorem part10_spec (v2 : BitVec 32) {Q : PUnit → sProp 𝕄} :
    iprop(records m K ∗ owing c (tallyAt (dCell 3 c (peer 3 c)) () N + tallyAt (dCell 3 c (peer 2 c)) () N)
        ∗ agPt c c (lend (peer 2 c)) (agC m) ∗ (∃ f, agPt (peer 2 c) c fullShare f)
        ∗ dutyTok ER (dCell 2 (peer 2 c) c) 0 c ∗ dutyTok ER (dCell 3 c (peer 2 c)) 0 (peer 2 c)
        ∗ agPt c c (lend (peer 3 c)) (agC m) ∗ (∃ f, agPt (peer 3 c) c fullShare f)
        ∗ dutyTok ER (dCell 2 (peer 3 c) c) 0 c ∗ dutyTok ER (dCell 3 c (peer 3 c)) 0 (peer 3 c) ∗ due 3 (peer 3 c) c)
      ⊢ iprop((owing c 0 ∗ cred (tallyAt (dCell 2 (peer 2 c) c) () N) ∗ cred (tallyAt (dCell 2 (peer 3 c) c) () N)
          ∗ took 3 (peer 3 c) c ∗ agPt c (peer 3 c) fullShare (agC m)
          -∗ Q ⟨⟩)
        -∗ wpB c (k0_part10 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c v2) Q) := by
  rw [k0_part10_eq_skeleton]; unfold k0_part10_skel wpB
  simp only [wp_bind]
  iintro ⟨#HR, HO, Hl2, Hg2, Ht2, Hu2, Hl3, Hg3, Ht3, Hu3, ⟨Hq33, Hp33⟩⟩ Hk
  iapply (step_gather m K c (peer 2 c) (peer_ne2 c) (k0_off6_eq c) (k0_off6_eq c) (Fin.ext (k0_dev17_eq c)) (sem_agS (peer 2 c) (off4_2 c)) (sem_agR c (k0_off5_eq c)) _) $$ [Hl2 Hg2 HO Ht2 Hu2]
  · isplitr; · iexact HR
    isplitl [Hl2]; · iexact Hl2
    isplitl [Hg2]; · iexact Hg2
    isplitl [HO]; · iexact HO
    isplitl [Ht2]; · iexact Ht2
    iexact Hu2
  iintro ⟨Hc2, HO⟩
  rw [← zero_add (tallyAt (dCell 3 c (peer 3 c)) () N)]
  iapply (step_gather m K c (peer 3 c) (peer_ne3 c) (k0_off6_eq c) (k0_off6_eq c) (Fin.ext (k0_dev18_eq c)) (sem_agS (peer 3 c) (off4_3 c)) (sem_agR c (k0_off5_eq c)) _) $$ [Hl3 Hg3 HO Ht3 Hu3]
  · isplitr; · iexact HR
    isplitl [Hl3]; · iexact Hl3
    isplitl [Hg3]; · iexact Hg3
    isplitl [HO]; · iexact HO
    isplitl [Ht3]; · iexact Ht3
    iexact Hu3
  iintro ⟨Hc3, HO⟩
  iapply (step_wait m K c 3 (peer 3 c) (peer_ne3 c) (sem_agR (peer 3 c) (off1_1 c)) credit_ag (Above.zero _)) $$ [Hq33 Hp33 HO]
  · isplitr; · iexact HR
    isplitl [Hq33]; · iexact Hq33
    isplitl [HO]; · iexact HO
    iexact Hp33
  iintro ⟨HO, Hp33, Ha3⟩
  try rw [show (pure (f := Prog (TpuEff nD τ sig (Elt F) Λ₀ .tc)) = Prog.ret) from rfl]
  repeat (rw [wp_ret]; imodintro)
  iapply Hk
  isplitl [HO]; · iexact HO
  isplitl [Hc2]; · iexact Hc2
  isplitl [Hc3]; · iexact Hc3
  isplitl [Hp33]; · iexact Hp33
  unfold payOf; iexact Ha3

/-- A block reshaped and back is itself. -/
theorem recast (v : SlotVec F) : shapeCast S1x64x512 (shapeCast S64x512 v shapeCasts_S1x64x512_S64x512) shapeCasts_S64x512_S1x64x512 = v :=
  funext fun x => congrArg v ((Shape.reshapeEquiv_reshapeEquiv _ _ x).trans (Shape.reshapeEquiv_self _ x))

/-- The other peers' sums awaited; the result's first two blocks put in place, the third read. -/
theorem part11_spec (v2 : BitVec 32) {Q : FVec F S64x512 .bf16 → sProp 𝕄} :
    iprop(records m K ∗ owing c 0 ∗ due 3 (peer 2 c) c ∗ due 3 (peer 1 c) c ∗ agPt c (peer 3 c) fullShare (agC m) ∗ agPt c c (lend c) (agC m) ∗ outPt m c 0)
      ⊢ iprop((owing c 0 ∗ took 3 (peer 1 c) c ∗ took 3 (peer 2 c) c
          ∗ (agRest m c (peer 1 c) ∗ agRest m c (peer 2 c) ∗ agRest m c (peer 3 c))
          ∗ (agPt c 0 (lend c) (agC m) ∗ agPt c 1 (lend c) (agC m) ∗ agPt c 2 (lend c) (agC m) ∗ agPt c 3 (lend c) (agC m)) ∗ outPt m c 2
          -∗ Q (k0_pay37 (red m 2)))
        -∗ wpB c (k0_part11 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c v2) Q) := by
  rw [k0_part11_eq_skeleton]; unfold k0_part11_skel wpB
  simp only [wp_bind]
  iintro ⟨#HR, HO, ⟨Hq32, Hp32⟩, ⟨Hq31, Hp31⟩, Ha3, Hlc, Hout⟩ Hk
  iapply (step_wait m K c 3 (peer 2 c) (peer_ne2 c) (sem_agR (peer 2 c) (off1_2 c)) credit_ag (Above.zero _)) $$ [Hq32 Hp32 HO]
  · isplitr; · iexact HR
    isplitl [Hq32]; · iexact Hq32
    isplitl [HO]; · iexact HO
    iexact Hp32
  iintro ⟨HO, Hp32, Ha2⟩
  iapply (step_wait m K c 3 (peer 1 c) (peer_ne1 c) (sem_agR (peer 1 c) (off1_3 c)) credit_ag (Above.zero _)) $$ [Hq31 Hp31 HO]
  · isplitr; · iexact HR
    isplitl [Hq31]; · iexact Hq31
    isplitl [HO]; · iexact HO
    iexact Hp31
  iintro ⟨HO, Hp31, Ha1⟩
  unfold payOf
  ihave Ha1 := (Entails.of_eq (agPt_lend m c (peer 1 c))) $$ Ha1
  ihave Ha2 := (Entails.of_eq (agPt_lend m c (peer 2 c))) $$ Ha2
  ihave Ha3 := (Entails.of_eq (agPt_lend m c (peer 3 c))) $$ Ha3
  icases Ha1 with ⟨Ha1, He1⟩
  icases Ha2 with ⟨Ha2, He2⟩
  icases Ha3 with ⟨Ha3, He3⟩
  ihave Hr := (Entails.of_eq (turn c fun s => agPt c s (lend c) (agC m))) $$ [Hlc Ha1 Ha2 Ha3]
  · isplitl [Hlc]; · iexact Hlc
    isplitl [Ha1]; · iexact Ha1
    isplitl [Ha2]; · iexact Ha2
    iexact Ha3
  icases Hr with ⟨Hl0, Hl1, Hl2, Hl3⟩
  iapply (read_ag m c 0 (by rfl) (lend c)) $$ Hl0
  iintro Hl0
  iapply (load_out m c 0) $$ Hout
  iintro %y0 Hout
  iapply (store_out m c 0 (by rfl) _ (recast _) (by rfl)) $$ Hout
  iintro Hout
  iapply (read_ag m c 1 (by rfl) (lend c)) $$ Hl1
  iintro Hl1
  iapply (load_out m c 1) $$ Hout
  iintro %y1 Hout
  iapply (store_out m c 1 (by rfl) _ (recast _) (by rfl)) $$ Hout
  iintro Hout
  iapply (read_ag m c 2 (by rfl) (lend c)) $$ Hl2
  iintro Hl2
  try rw [show (pure (f := Prog (TpuEff nD τ sig (Elt F) Λ₀ .tc)) = Prog.ret) from rfl]
  repeat (rw [wp_ret]; imodintro)
  iapply Hk
  isplitl [HO]; · iexact HO
  isplitl [Hp31]; · iexact Hp31
  isplitl [Hp32]; · iexact Hp32
  isplitl [He1 He2 He3]
  · isplitl [He1]; · iexact He1
    isplitl [He2]; · iexact He2
    iexact He3
  isplitl [Hl0 Hl1 Hl2 Hl3]
  · isplitl [Hl0]; · iexact Hl0
    isplitl [Hl1]; · iexact Hl1
    isplitl [Hl2]; · iexact Hl2
    iexact Hl3
  iexact Hout

/-- What stage 12 needs. -/
def pre12 : sProp 𝕄 := iprop(owing c 0 ∗ outPt m c 2 ∗ agPt c 3 (lend c) (agC m)
    ∗ due 0 (peer 1 c) c ∗ due 0 (peer 2 c) c ∗ due 0 (peer 3 c) c ∗ due 2 (peer 1 c) c)
/-- What it leaves. -/
def post12 : sProp 𝕄 := iprop(owing c 0 ∗ outPt m c 4 ∗ agPt c 3 (lend c) (agC m)
    ∗ (took 0 (peer 1 c) c ∗ sbPt c (peer 1 c) (sbC m c)) ∗ (took 0 (peer 2 c) c ∗ sbPt c (peer 2 c) (sbC m c)) ∗ (took 0 (peer 3 c) c ∗ sbPt c (peer 3 c) (sbC m c))
    ∗ took 2 (peer 1 c) c ∗ agPt c c (lend (peer 1 c)) (agC m))

set_option maxHeartbeats 4000000 in
/-- The result's last two blocks put in place; the chunks' sends awaited, and the first of the sum's. -/
theorem part12_spec (v2 : BitVec 32) {Q : PUnit → sProp 𝕄} : iprop(records m K ∗ pre12 m c) ⊢ iprop((post12 m c -∗ Q ⟨⟩)
    -∗ wpB c (k0_part12 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c v2 (k0_pay37 (red m 2))) Q) := by
  rw [k0_part12_eq_skeleton]; unfold k0_part12_skel wpB
  simp only [wp_bind]
  unfold pre12 post12
  iintro ⟨#HR, HO, Hout, Hl3, ⟨Hq01, Hp01⟩, ⟨Hq02, Hp02⟩, ⟨Hq03, Hp03⟩, ⟨Hq21, Hp21⟩⟩ Hk
  iapply (load_out m c 2) $$ Hout
  iintro %y0 Hout
  iapply (store_out m c 2 (by rfl) _ (recast _) (by rfl)) $$ Hout
  iintro Hout
  iapply (read_ag m c 3 (by rfl) (lend c)) $$ Hl3
  iintro Hl3
  iapply (load_out m c 3) $$ Hout
  iintro %y1 Hout
  iapply (store_out m c 3 (by rfl) _ (recast _) (by rfl)) $$ Hout
  iintro Hout
  have hc : c = 0 ∨ c = 1 ∨ c = 2 ∨ c = 3 := by revert c; decide
  rcases hc with hc | hc | hc | hc
  all_goals
    repeat first
      | rw [dif_neg (show ¬ k0_cond5 c = 1#1 by subst hc; decide)]
      | (rw [dif_pos (show k0_cond5 c = 1#1 by subst hc; decide)]; simp only [wp_bind])
      | rw [dif_neg (show ¬ k0_cond6 c = 1#1 by subst hc; decide)]
      | (rw [dif_pos (show k0_cond6 c = 1#1 by subst hc; decide)]; simp only [wp_bind])
      | rw [dif_neg (show ¬ k0_cond7 c = 1#1 by subst hc; decide)]
      | (rw [dif_pos (show k0_cond7 c = 1#1 by subst hc; decide)]; simp only [wp_bind])
      | rw [dif_neg (show ¬ k0_cond8 c = 1#1 by subst hc; decide)]
      | (rw [dif_pos (show k0_cond8 c = 1#1 by subst hc; decide)]; simp only [wp_bind])
      | (iapply (step_wait m K c 0 (peer 1 c) (peer_ne1 c) (sem_rsS (peer 1 c) (by subst hc; rfl)) credit_sb (Above.zero _)) $$ [Hq01 Hp01 HO]
         · isplitr; · iexact HR
           isplitl [Hq01]; · iexact Hq01
           isplitl [HO]; · iexact HO
           iexact Hp01
         iintro ⟨HO, Hp01, Hb1⟩)
      | (iapply (step_wait m K c 0 (peer 2 c) (peer_ne2 c) (sem_rsS (peer 2 c) (by subst hc; rfl)) credit_sb (Above.zero _)) $$ [Hq02 Hp02 HO]
         · isplitr; · iexact HR
           isplitl [Hq02]; · iexact Hq02
           isplitl [HO]; · iexact HO
           iexact Hp02
         iintro ⟨HO, Hp02, Hb2⟩)
      | (iapply (step_wait m K c 0 (peer 3 c) (peer_ne3 c) (sem_rsS (peer 3 c) (by subst hc; rfl)) credit_sb (Above.zero _)) $$ [Hq03 Hp03 HO]
         · isplitr; · iexact HR
           isplitl [Hq03]; · iexact Hq03
           isplitl [HO]; · iexact HO
           iexact Hp03
         iintro ⟨HO, Hp03, Hb3⟩)
    try simp only [wp_bind]
    iapply (step_wait m K c 2 (peer 1 c) (peer_ne1 c) (sem_agS (peer 1 c) (off4_1 c)) credit_ag (Above.zero _)) $$ [Hq21 Hp21 HO]
    · isplitr; · iexact HR
      isplitl [Hq21]; · iexact Hq21
      isplitl [HO]; · iexact HO
      iexact Hp21
    iintro ⟨HO, Hp21, Hl⟩
    unfold payOf
    try rw [show (pure (f := Prog (TpuEff nD τ sig (Elt F) Λ₀ .tc)) = Prog.ret) from rfl]
    repeat (rw [wp_ret]; imodintro)
    iapply Hk
    isplitl [HO]; · iexact HO
    isplitl [Hout]; · iexact Hout
    isplitl [Hl3]; · iexact Hl3
    isplitl [Hp01 Hb1]
    · isplitl [Hp01]; · iexact Hp01
      iexact Hb1
    isplitl [Hp02 Hb2]
    · isplitl [Hp02]; · iexact Hp02
      iexact Hb2
    isplitl [Hp03 Hb3]
    · isplitl [Hp03]; · iexact Hp03
      iexact Hb3
    isplitl [Hp21]; · iexact Hp21
    iexact Hl

end Parts

end Cert.Ring
-- ==== Proof.Body.lean ====
/-
# A device's body

The twelve stages one after another: what a device starts its body with and what it ends it with.
-/
module

public import proofs.«01_k».proof.Proof.Gen.KernelIdeal.Points
public import Idealize.ShloMosaic.Lib.Ring
public import proofs.«01_k».proof.Proof.PartsC

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Buffers as slots -/

section Slots
variable (c : Dev nD)

/-- The send buffer, whole, is its four slots: the device's own and one for each peer. -/
theorem cut_sb : iprop(∃ f, bPt c cc0_scratch5 f) ⊢ (iprop((∃ f, sbPt c c f) ∗ (∃ f, sbPt c (peer 1 c) f) ∗ (∃ f, sbPt c (peer 2 c) f) ∗ ∃ f, sbPt c (peer 3 c) f) : sProp 𝕄) := by
  rw [← around c fun s => iprop(∃ f, sbPt c s f)]
  iintro ⟨%f, H⟩
  ihave H := (Entails.of_eq (Idealize.ShloMosaic.Ring.pointsTo_blocks (ℓ := (c : Thread nD τ).loc cc0_scratch5) slotSet slot_disjoint slot_cover f)) $$ H
  have h1 (s : Dev nD) : (((c : Thread nD τ).loc cc0_scratch5) ↦[slotSet s]{fullShare} f : sProp 𝕄) ⊢ iprop(∃ f, sbPt c s f) := by
    iintro H; iexists f; unfold sbPt; iexact H
  have h : (bigSep Finset.univ fun s => ((c : Thread nD τ).loc cc0_scratch5) ↦[slotSet s]{fullShare} f) ⊢ (bigSep Finset.univ fun s => iprop(∃ f, sbPt c s f) : sProp 𝕄) :=
    bigSep_mono fun s _ => h1 s
  iapply h $$ H
/-- So is the landing buffer. -/
theorem cut_rs : iprop(∃ f, bPt c cc0_scratch6 f) ⊢ (iprop((∃ f, rsPt c c f) ∗ (∃ f, rsPt c (peer 1 c) f) ∗ (∃ f, rsPt c (peer 2 c) f) ∗ ∃ f, rsPt c (peer 3 c) f) : sProp 𝕄) := by
  rw [← around c fun s => iprop(∃ f, rsPt c s f)]
  iintro ⟨%f, H⟩
  ihave H := (Entails.of_eq (Idealize.ShloMosaic.Ring.pointsTo_blocks (ℓ := (c : Thread nD τ).loc cc0_scratch6) slotSet slot_disjoint slot_cover f)) $$ H
  have h1 (s : Dev nD) : (((c : Thread nD τ).loc cc0_scratch6) ↦[slotSet s]{fullShare} f : sProp 𝕄) ⊢ iprop(∃ f, rsPt c s f) := by
    iintro H; iexists f; unfold rsPt; iexact H
  have h : (bigSep Finset.univ fun s => ((c : Thread nD τ).loc cc0_scratch6) ↦[slotSet s]{fullShare} f) ⊢ (bigSep Finset.univ fun s => iprop(∃ f, rsPt c s f) : sProp 𝕄) :=
    bigSep_mono fun s _ => h1 s
  iapply h $$ H
/-- And the gather buffer. -/
theorem cut_ag : iprop(∃ f, bPt c cc0_scratch7 f)
    ⊢ (iprop((∃ f, agPt c c fullShare f) ∗ (∃ f, agPt c (peer 1 c) fullShare f) ∗ (∃ f, agPt c (peer 2 c) fullShare f) ∗ ∃ f, agPt c (peer 3 c) fullShare f) : sProp 𝕄) := by
  rw [← around c fun s => iprop(∃ f, agPt c s fullShare f)]
  iintro ⟨%f, H⟩
  ihave H := (Entails.of_eq (Idealize.ShloMosaic.Ring.pointsTo_blocks (ℓ := (c : Thread nD τ).loc cc0_scratch7) slotSet slot_disjoint slot_cover f)) $$ H
  have h1 (s : Dev nD) : (((c : Thread nD τ).loc cc0_scratch7) ↦[slotSet s]{fullShare} f : sProp 𝕄) ⊢ iprop(∃ f, agPt c s fullShare f) := by
    iintro H; iexists f; unfold agPt; iexact H
  have h : (bigSep Finset.univ fun s => ((c : Thread nD τ).loc cc0_scratch7) ↦[slotSet s]{fullShare} f) ⊢ (bigSep Finset.univ fun s => iprop(∃ f, agPt c s fullShare f) : sProp 𝕄) :=
    bigSep_mono fun s _ => h1 s
  iapply h $$ H

/-- The four slots of the send buffer, once its chunks have been sent, make the buffer whole again. -/
theorem join_sb : (iprop((∃ f, sbPt c c f) ∗ sbPt c (peer 1 c) (sbC m c) ∗ sbPt c (peer 2 c) (sbC m c) ∗ sbPt c (peer 3 c) (sbC m c)) : sProp 𝕄) ⊢ iprop(∃ f, bPt c cc0_scratch5 f) := by
  refine BIBase.Entails.trans ?_ (Idealize.ShloMosaic.Ring.pointsTo_blocks_join_exists (ℓ := (c : Thread nD τ).loc cc0_scratch5) slotSet slot_disjoint slot_cover (sbC m c))
  rw [around c fun s => iprop(∃ f, ((c : Thread nD τ).loc cc0_scratch5) ↦[slotSet s]{fullShare} f)]
  unfold sbPt
  iintro ⟨H0, H1, H2, H3⟩
  isplitl [H0]; · iexact H0
  isplitl [H1]; · iexists _; iexact H1
  isplitl [H2]; · iexists _; iexact H2
  iexists _; iexact H3
/-- So do the four slots of the landing buffer, filled. -/
theorem join_rs : (iprop(rsPt c 0 (rsC m c) ∗ rsPt c 1 (rsC m c) ∗ rsPt c 2 (rsC m c) ∗ rsPt c 3 (rsC m c)) : sProp 𝕄) ⊢ iprop(∃ f, bPt c cc0_scratch6 f) := by
  rw [← four fun s => rsPt c s (rsC m c)]
  unfold rsPt
  iintro H
  iexists (rsC m c)
  iapply (Entails.of_eq (Idealize.ShloMosaic.Ring.pointsTo_blocks (ℓ := (c : Thread nD τ).loc cc0_scratch6) slotSet slot_disjoint slot_cover (rsC m c)).symm) $$ H
/-- And those of the gather buffer, filled. -/
theorem join_ag : (iprop(agPt c c fullShare (agC m) ∗ agPt c (peer 1 c) fullShare (agC m) ∗ agPt c (peer 2 c) fullShare (agC m) ∗ agPt c (peer 3 c) fullShare (agC m)) : sProp 𝕄)
    ⊢ iprop(∃ f, bPt c cc0_scratch7 f) := by
  rw [← around c fun s => agPt c s fullShare (agC m)]
  unfold agPt
  iintro H
  iexists (agC m)
  iapply (Entails.of_eq (Idealize.ShloMosaic.Ring.pointsTo_blocks (ℓ := (c : Thread nD τ).loc cc0_scratch7) slotSet slot_disjoint slot_cover (agC m)).symm) $$ H
end Slots

/-! ## The semaphores closed -/

section Close
variable (K : Dev nD × Kd → ℕ) (c : Dev nD)

/-- A device's barrier, its round taken, closes at zero. -/
theorem close_bar : iprop(records m K ∗ atPos ER (barCell c) (0 + 1) ∅ 0) ⊢ |={Set.univ}=> semVal (barCell c) 0 :=
  (sep_mono_left (records_inv m K (c, .inl ()))).trans
    (Rounds.cell_close ER (Rd m) (Set.mem_univ (K (c, .inl ()))) (fun h => h) (R := 0 + 1) (duties_later m (barCell c)))
/-- A peer's slot semaphore, its round taken, closes at zero. -/
theorem close_peer (f : Fin 4) (s : Dev nD) : iprop(records m K ∗ took f s c) ⊢ |={Set.univ}=> semVal (dCell f s c) 0 :=
  (sep_mono_left (records_inv m K (c, .inr (f, s)))).trans
    (Rounds.cell_close ER (Rd m) (Set.mem_univ (K (c, .inr (f, s)))) (fun h => h) (R := 0 + 1) (duties_later m (dCell f s c)))
/-- The semaphore of the device's own slot, which nobody credits, closes at zero. -/
theorem close_own (f : Fin 4) : iprop(records m K ∗ atPos ER (dCell f c c) 0 ∅ 0) ⊢ |={Set.univ}=> semVal (dCell f c c) 0 :=
  (sep_mono_left (records_inv m K (c, .inr (f, c)))).trans
    (Rounds.cell_close ER (Rd m) (Set.mem_univ (K (c, .inr (f, c)))) (fun h => h) (R := 0) (duties_own m c f))

/-- A family of four, closed. -/
theorem close_fam (f : Fin 4) : iprop(records m K ∗ atPos ER (dCell f c c) 0 ∅ 0 ∗ took f (peer 1 c) c ∗ took f (peer 2 c) c ∗ took f (peer 3 c) c)
    ⊢ |={Set.univ}=> bigSep Finset.univ fun s => semVal (dCell f s c) 0 := by
  rw [around c fun s => semVal (dCell f s c) 0]
  iintro ⟨#HR, H0, H1, H2, H3⟩
  imod (close_own m K c f) $$ [H0] with H0
  · isplitr; · iexact HR
    iexact H0
  imod (close_peer m K c f (peer 1 c)) $$ [H1] with H1
  · isplitr; · iexact HR
    iexact H1
  imod (close_peer m K c f (peer 2 c)) $$ [H2] with H2
  · isplitr; · iexact HR
    iexact H2
  imod (close_peer m K c f (peer 3 c)) $$ [H3] with H3
  · isplitr; · iexact HR
    iexact H3
  imodintro
  isplitl [H0]; · iexact H0
  isplitl [H1]; · iexact H1
  isplitl [H2]; · iexact H2
  iexact H3
end Close

/-! ## The body -/

section Body
variable (K : Dev nD × Kd → ℕ) (c : Dev nD)

/-- The duties device `c` pays on behalf of its `k`-th peer or to it. -/
def duty (k : Dev nD) : sProp 𝕄 := iprop(dutyTok ER (barCell (peer k c)) 0 c ∗ dutyTok ER (dCell 0 (peer k c) c) 0 c ∗ dutyTok ER (dCell 1 c (peer k c)) 0 (peer k c)
    ∗ dutyTok ER (dCell 2 (peer k c) c) 0 c ∗ dutyTok ER (dCell 3 c (peer k c)) 0 (peer k c))
/-- A family's four rounds, none taken. -/
def fam (f : Fin 4) : sProp 𝕄 := bigSep Finset.univ fun s => atPos ER (dCell f s c) 0 ∅ 0
/-- What is device `c`'s of the protocol: its rounds and the duties it pays. -/
def ghost : sProp 𝕄 := iprop((atPos ER (barCell c) 0 ∅ 0 ∗ fam c 0 ∗ fam c 1 ∗ fam c 2 ∗ fam c 3) ∗ duty c 1 ∗ duty c 2 ∗ duty c 3)
/-- What its peers will credit it. -/
def credits : sProp 𝕄 := iprop(cred (tallyAt (barCell c) () 3)
    ∗ (cred (tallyAt (dCell 1 (peer 1 c) c) () N) ∗ cred (tallyAt (dCell 1 (peer 2 c) c) () N) ∗ cred (tallyAt (dCell 1 (peer 3 c) c) () N))
    ∗ cred (tallyAt (dCell 3 (peer 1 c) c) () N) ∗ cred (tallyAt (dCell 3 (peer 2 c) c) () N) ∗ cred (tallyAt (dCell 3 (peer 3 c) c) () N))

/-- The program's arguments at their contents. -/
def argsPt : sProp 𝕄 := iprop(bPt c main_arg0 (xA m c) ∗ bPt c main_arg1 (wqA m c) ∗ bPt c main_arg2 (woA m c) ∗ bPt c main_arg3 (wkA m c) ∗ bPt c main_arg4 (wvA m c))
/-- The kernel's scratch buffers. -/
def scratch : sProp 𝕄 := iprop((∃ f, bPt c cc0_scratch0 f) ∗ (∃ f, bPt c cc0_scratch1 f) ∗ (∃ f, bPt c cc0_scratch2 f) ∗ (∃ f, bPt c cc0_scratch3 f) ∗ (∃ f, bPt c cc0_scratch4 f) ∗ (∃ f, bPt c cc0_scratch5 f) ∗ (∃ f, bPt c cc0_scratch6 f) ∗ (∃ f, bPt c cc0_scratch7 f) ∗ (∃ f, bPt c cc0_scratch8 f))
/-- The local transfers' semaphores at zero. -/
def locals : sProp 𝕄 := iprop(semVal ((c : Thread nD τ), .dma (⟨0, by decide⟩ : DmaSem sig)) 0 ∗ semVal ((c : Thread nD τ), .dma (⟨1, by decide⟩ : DmaSem sig)) 0 ∗ semVal ((c : Thread nD τ), .dma (⟨2, by decide⟩ : DmaSem sig)) 0 ∗ semVal ((c : Thread nD τ), .dma (⟨3, by decide⟩ : DmaSem sig)) 0 ∗ semVal ((c : Thread nD τ), .dma (⟨4, by decide⟩ : DmaSem sig)) 0 ∗ semVal ((c : Thread nD τ), .dma (⟨5, by decide⟩ : DmaSem sig)) 0)

/-- The result's contents. -/
abbrev outV : Buf (Elt F) ((c : Thread nD τ).loc main_v1) := outC m

/-- What a device starts its body with. -/
def bodyPre : sProp 𝕄 := iprop(ghost c ∗ credits c ∗ argsPt m c ∗ (∃ f, bPt c main_v1 f) ∗ locals c ∗ scratch c)
/-- What it ends it with. -/
def bodyPost : sProp 𝕄 := iprop(argsPt m c ∗ bPt c main_v1 (outV m c) ∗ locals c ∗ scratch c
    ∗ semVal (barCell c) 0 ∗ (bigSep Finset.univ fun s => semVal (dCell 0 s c) 0) ∗ (bigSep Finset.univ fun s => semVal (dCell 1 s c) 0)
    ∗ (bigSep Finset.univ fun s => semVal (dCell 2 s c) 0) ∗ bigSep Finset.univ fun s => semVal (dCell 3 s c) 0)

set_option maxHeartbeats 2000000 in
/-- A device's body, from its start to its end, its debts paid. -/
theorem body_spec {Q : PUnit → sProp 𝕄} : iprop(records m K ∗ owing c (oweAll c) ∗ bodyPre m c)
    ⊢ iprop((owing c 0 ∗ bodyPost m c -∗ Q ⟨⟩) -∗ wpB c (bodyAt0 (F := F) t0_0) Q) := by
  unfold bodyAt0
  rw [cc0_body_eq_skeleton]; unfold cc0_body_skel wpB
  simp only [wp_bind]
  unfold bodyPre bodyPost ghost duty credits argsPt locals scratch
  iintro ⟨#HR, HO, ⟨⟨Hat, Hf0, Hf1, Hf2, Hf3⟩, ⟨Hb1, Hs1, Hr1, Hx1, Hy1⟩, ⟨Hb2, Hs2, Hr2, Hx2, Hy2⟩, ⟨Hb3, Hs3, Hr3, Hx3, Hy3⟩⟩,
    ⟨HcB, ⟨HcR1, HcR2, HcR3⟩, HcG1, HcG2, HcG3⟩, ⟨Ha0, Ha1, Ha2, Ha3, Ha4⟩, ⟨%fv, Hv1⟩, ⟨Hl0, Hl1, Hl2, Hl3, Hl4, Hl5⟩,
    Hc0, Hc1, Hc2, Hc3, Hc4, Hc5, Hc6, Hc7, Hc8⟩ Hk
  ihave Hc5 := (cut_sb (F := F) c) $$ Hc5
  icases Hc5 with ⟨Hsb, Hsb1, Hsb2, Hsb3⟩
  ihave Hc6 := (cut_rs (F := F) c) $$ Hc6
  icases Hc6 with ⟨Hrs, Hrs1, Hrs2, Hrs3⟩
  ihave Hc7 := (cut_ag (F := F) c) $$ Hc7
  icases Hc7 with ⟨Hag, Hag1, Hag2, Hag3⟩
  ihave Hf0 := (Entails.of_eq (around c fun s => atPos ER (dCell 0 s c) 0 ∅ 0)) $$ [Hf0]
  · unfold fam; iexact Hf0
  icases Hf0 with ⟨Hf0, Hp01, Hp02, Hp03⟩
  ihave Hf1 := (Entails.of_eq (around c fun s => atPos ER (dCell 1 s c) 0 ∅ 0)) $$ [Hf1]
  · unfold fam; iexact Hf1
  icases Hf1 with ⟨Hf1, Hp11, Hp12, Hp13⟩
  ihave Hf2 := (Entails.of_eq (around c fun s => atPos ER (dCell 2 s c) 0 ∅ 0)) $$ [Hf2]
  · unfold fam; iexact Hf2
  icases Hf2 with ⟨Hf2, Hp21, Hp22, Hp23⟩
  ihave Hf3 := (Entails.of_eq (around c fun s => atPos ER (dCell 3 s c) 0 ∅ 0)) $$ [Hf3]
  · unfold fam; iexact Hf3
  icases Hf3 with ⟨Hf3, Hp31, Hp32, Hp33⟩
  iapply (part5_spec m K c) $$ [HO Hb1 Hrs1 Hag1 Hb2 Hrs2 Hag2 Hb3 Hrs3 Hag3 Ha0 Hc0 Hl0 Ha1 Hc1 Hl1 Ha3 Hc3 Hl2 Ha4 Hc4 Hl3 Ha2 Hc2 Hl4]
  · isplitr; · iexact HR
    isplitl [HO]; · iexact HO
    isplitl [Hb1]; · iexact Hb1
    isplitl [Hrs1]; · iexact Hrs1
    isplitl [Hag1]; · iexact Hag1
    isplitl [Hb2]; · iexact Hb2
    isplitl [Hrs2]; · iexact Hrs2
    isplitl [Hag2]; · iexact Hag2
    isplitl [Hb3]; · iexact Hb3
    isplitl [Hrs3]; · iexact Hrs3
    isplitl [Hag3]; · iexact Hag3
    isplitl [Ha0]; · iexact Ha0
    isplitl [Hc0]; · iexact Hc0
    isplitl [Hl0]; · iexact Hl0
    isplitl [Ha1]; · iexact Ha1
    isplitl [Hc1]; · iexact Hc1
    isplitl [Hl1]; · iexact Hl1
    isplitl [Ha3]; · iexact Ha3
    isplitl [Hc3]; · iexact Hc3
    isplitl [Hl2]; · iexact Hl2
    isplitl [Ha4]; · iexact Ha4
    isplitl [Hc4]; · iexact Hc4
    isplitl [Hl3]; · iexact Hl3
    isplitl [Ha2]; · iexact Ha2
    isplitl [Hc2]; · iexact Hc2
    iexact Hl4
  iintro ⟨HO, Hw0, Hw1, Hw2, Hw3, Hw4⟩
  iapply (part6_spec m K c) $$ [HO Hw0 Hw1 Hw2 Hw3]
  · isplitr; · iexact HR
    isplitl [HO]; · iexact HO
    isplitl [Hw0]; · iexact Hw0
    isplitl [Hw1]; · iexact Hw1
    isplitl [Hw2]; · iexact Hw2
    iexact Hw3
  iintro ⟨HO, Ha0, Hc0, Hl0, Ha1, Hc1, Hl1, Ha3, Hc3, Hl2, Ha4, Hc4, Hl3⟩
  iapply (part7_spec m K c _) $$ [HO Hw4 HcB Hat Hsb1 Hs1 Hr1 Hsb2 Hs2 Hr2 Hsb3 Hs3 Hr3 Hsb Hrs]
  · unfold pre7
    isplitr; · iexact HR
    isplitl [HO]; · iexact HO
    isplitl [Hw4]; · iexact Hw4
    isplitl [HcB]; · iexact HcB
    isplitl [Hat]; · iexact Hat
    isplitl [Hsb1]; · iexact Hsb1
    isplitl [Hs1]; · iexact Hs1
    isplitl [Hr1]; · iexact Hr1
    isplitl [Hsb2]; · iexact Hsb2
    isplitl [Hs2]; · iexact Hs2
    isplitl [Hr2]; · iexact Hr2
    isplitl [Hsb3]; · iexact Hsb3
    isplitl [Hs3]; · iexact Hs3
    isplitl [Hr3]; · iexact Hr3
    isplitl [Hsb]; · iexact Hsb
    iexact Hrs
  unfold post7
  iintro ⟨HO, Ha2, Hc2, Hl4, Hat, Hd01, Hag1, Hd02, Hag2, Hd03, Hag3, Hsb, Hrs⟩
  iapply (part8_spec m K c _) $$ [HO Hrs HcR1 Hp11 HcR2 Hp12 HcR3 Hp13]
  · isplitr; · iexact HR
    isplitl [HO]; · iexact HO
    isplitl [Hrs]; · iexact Hrs
    isplitl [HcR1 Hp11]
    · isplitl [HcR1]; · iexact HcR1
      iexact Hp11
    isplitl [HcR2 Hp12]
    · isplitl [HcR2]; · iexact HcR2
      iexact Hp12
    isplitl [HcR3]; · iexact HcR3
    iexact Hp13
  iintro ⟨HO, ⟨Hp11, Hp12, Hp13⟩, Hq0, Hq1, Hq2, Hq3⟩
  iapply (part9_spec m K c _) $$ [HO Hq2 Hq3 Hag Hag1 Hx1 Hy1]
  · isplitr; · iexact HR
    isplitl [HO]; · iexact HO
    isplitl [Hq2]; · iexact Hq2
    isplitl [Hq3]; · iexact Hq3
    isplitl [Hag]; · iexact Hag
    isplitl [Hag1]; · iexact Hag1
    isplitl [Hx1]; · iexact Hx1
    iexact Hy1
  iintro ⟨HO, Hd21, Hq2, Hq3, Hg0, Hg2, Hg3⟩
  iapply (part10_spec m K c _) $$ [HO Hg2 Hag2 Hx2 Hy2 Hg3 Hag3 Hx3 Hy3 HcG3 Hp33]
  · isplitr; · iexact HR
    isplitl [HO]; · iexact HO
    isplitl [Hg2]; · iexact Hg2
    isplitl [Hag2]; · iexact Hag2
    isplitl [Hx2]; · iexact Hx2
    isplitl [Hy2]; · iexact Hy2
    isplitl [Hg3]; · iexact Hg3
    isplitl [Hag3]; · iexact Hag3
    isplitl [Hx3]; · iexact Hx3
    isplitl [Hy3]; · iexact Hy3
    isplitl [HcG3]; · iexact HcG3
    iexact Hp33
  iintro ⟨HO, Hd22, Hd23, Hp33, Hag3⟩
  iapply (part11_spec m K c _) $$ [HO HcG2 Hp32 HcG1 Hp31 Hag3 Hg0 Hc8]
  · isplitr; · iexact HR
    isplitl [HO]; · iexact HO
    isplitl [HcG2 Hp32]
    · isplitl [HcG2]; · iexact HcG2
      iexact Hp32
    isplitl [HcG1 Hp31]
    · isplitl [HcG1]; · iexact HcG1
      iexact Hp31
    isplitl [Hag3]; · iexact Hag3
    isplitl [Hg0]; · iexact Hg0
    icases Hc8 with ⟨%f8, Hc8⟩
    unfold outPt; iexists f8
    isplitr; · ipureintro; exact fun i hi => absurd hi (Nat.not_lt_zero _)
    iexact Hc8
  iintro ⟨HO, Hp31, Hp32, ⟨He1, He2, He3⟩, ⟨Hg0, Hg1, Hg2, Hg3⟩, Hout⟩
  iapply (part12_spec m K c _) $$ [HO Hout Hg3 Hd01 Hp01 Hd02 Hp02 Hd03 Hp03 Hd21 Hp21]
  · unfold pre12
    isplitr; · iexact HR
    isplitl [HO]; · iexact HO
    isplitl [Hout]; · iexact Hout
    isplitl [Hg3]; · iexact Hg3
    isplitl [Hd01 Hp01]
    · isplitl [Hd01]; · iexact Hd01
      iexact Hp01
    isplitl [Hd02 Hp02]
    · isplitl [Hd02]; · iexact Hd02
      iexact Hp02
    isplitl [Hd03 Hp03]
    · isplitl [Hd03]; · iexact Hd03
      iexact Hp03
    isplitl [Hd21]; · iexact Hd21
    iexact Hp21
  unfold post12
  iintro ⟨HO, Hout, Hg3, ⟨Hp01, Hsb1⟩, ⟨Hp02, Hsb2⟩, ⟨Hp03, Hsb3⟩, Hp21, Hz1⟩
  iapply (step_wait m K c 2 (peer 2 c) (peer_ne2 c) (sem_agS (peer 2 c) (off4_2 c)) credit_ag (Above.zero _)) $$ [Hd22 HO Hp22]
  · isplitr; · iexact HR
    isplitl [Hd22]; · iexact Hd22
    isplitl [HO]; · iexact HO
    iexact Hp22
  iintro ⟨HO, Hp22, Hz2⟩
  iapply (step_wait m K c 2 (peer 3 c) (peer_ne3 c) (sem_agS (peer 3 c) (off4_3 c)) credit_ag (Above.zero _)) $$ [Hd23 HO Hp23]
  · isplitr; · iexact HR
    isplitl [Hd23]; · iexact Hd23
    isplitl [HO]; · iexact HO
    iexact Hp23
  iintro ⟨HO, Hp23, Hz3⟩
  unfold outPt payOf
  icases Hout with ⟨%g, %hg, Hout⟩
  have hg' : g = outC m := funext fun i => hg i (blk i).isLt
  subst hg'
  iapply (step_copy c (Memref.whole cc0_scratch8) (Memref.whole main_v1) (⟨5, by decide⟩ : DmaSem sig) (by rfl) (outC m) fv (outV m c) (View.set_whole _) (View.set_whole _) nO rfl
    (View.dmaCredit_pos _ (by decide)) (View.write_whole_univ _ _ _)) $$ [Hout Hv1 Hl5]
  · isplitl [Hout]; · iexact Hout
    isplitl [Hv1]; · iexact Hv1
    iexact Hl5
  iintro Hw
  iapply (step_landed m K c (⟨5, by decide⟩ : DmaSem sig) (src := Memref.whole cc0_scratch8) (dst := Memref.whole main_v1) (by rfl) nO rfl (Above.zero _)) $$ [Hw HO]
  · isplitr; · iexact HR
    isplitl [Hw]; · iexact Hw
    iexact HO
  iintro ⟨⟨Hv1, Hout⟩, Hl5, HO⟩
  ihave Hg := (Entails.of_eq (turn c fun s => agPt c s (lend c) (agC m)).symm) $$ [Hg0 Hg1 Hg2 Hg3]
  · isplitl [Hg0]; · iexact Hg0
    isplitl [Hg1]; · iexact Hg1
    isplitl [Hg2]; · iexact Hg2
    iexact Hg3
  icases Hg with ⟨Hg0, Hg1, Hg2, Hg3⟩
  ihave Hg0 := (Entails.of_eq (agPt_lend m c c).symm) $$ [Hg0 Hz1 Hz2 Hz3]
  · isplitl [Hg0]; · iexact Hg0
    unfold agRest
    isplitl [Hz1]; · iexact Hz1
    isplitl [Hz2]; · iexact Hz2
    iexact Hz3
  ihave Hg1 := (Entails.of_eq (agPt_lend m c (peer 1 c)).symm) $$ [Hg1 He1]
  · isplitl [Hg1]; · iexact Hg1
    iexact He1
  ihave Hg2 := (Entails.of_eq (agPt_lend m c (peer 2 c)).symm) $$ [Hg2 He2]
  · isplitl [Hg2]; · iexact Hg2
    iexact He2
  ihave Hg3 := (Entails.of_eq (agPt_lend m c (peer 3 c)).symm) $$ [Hg3 He3]
  · isplitl [Hg3]; · iexact Hg3
    iexact He3
  ihave Hc7 := (join_ag m c) $$ [Hg0 Hg1 Hg2 Hg3]
  · isplitl [Hg0]; · iexact Hg0
    isplitl [Hg1]; · iexact Hg1
    isplitl [Hg2]; · iexact Hg2
    iexact Hg3
  ihave Hc6 := (join_rs m c) $$ [Hq0 Hq1 Hq2 Hq3]
  · isplitl [Hq0]; · iexact Hq0
    isplitl [Hq1]; · iexact Hq1
    isplitl [Hq2]; · iexact Hq2
    iexact Hq3
  ihave Hc5 := (join_sb m c) $$ [Hsb Hsb1 Hsb2 Hsb3]
  · isplitl [Hsb]; · iexact Hsb
    isplitl [Hsb1]; · iexact Hsb1
    isplitl [Hsb2]; · iexact Hsb2
    iexact Hsb3
  rw [show (pure (f := Prog (TpuEff nD τ sig (Elt F) Λ₀ .tc)) = Prog.ret) from rfl, wp_ret]
  imod (close_bar m K c) $$ [Hat] with Hat
  · isplitr; · iexact HR
    iexact Hat
  imod (close_fam m K c 0) $$ [Hf0 Hp01 Hp02 Hp03] with Hf0
  · isplitr; · iexact HR
    isplitl [Hf0]; · iexact Hf0
    isplitl [Hp01]; · iexact Hp01
    isplitl [Hp02]; · iexact Hp02
    iexact Hp03
  imod (close_fam m K c 1) $$ [Hf1 Hp11 Hp12 Hp13] with Hf1
  · isplitr; · iexact HR
    isplitl [Hf1]; · iexact Hf1
    isplitl [Hp11]; · iexact Hp11
    isplitl [Hp12]; · iexact Hp12
    iexact Hp13
  imod (close_fam m K c 2) $$ [Hf2 Hp21 Hp22 Hp23] with Hf2
  · isplitr; · iexact HR
    isplitl [Hf2]; · iexact Hf2
    isplitl [Hp21]; · iexact Hp21
    isplitl [Hp22]; · iexact Hp22
    iexact Hp23
  imod (close_fam m K c 3) $$ [Hf3 Hp31 Hp32 Hp33] with Hf3
  · isplitr; · iexact HR
    isplitl [Hf3]; · iexact Hf3
    isplitl [Hp31]; · iexact Hp31
    isplitl [Hp32]; · iexact Hp32
    iexact Hp33
  imodintro
  iapply Hk
  isplitl [HO]; · iexact HO
  isplitl [Ha0 Ha1 Ha2 Ha3 Ha4]
  · isplitl [Ha0]; · iexact Ha0
    isplitl [Ha1]; · iexact Ha1
    isplitl [Ha2]; · iexact Ha2
    isplitl [Ha3]; · iexact Ha3
    iexact Ha4
  isplitl [Hv1]; · iexact Hv1
  isplitl [Hl0 Hl1 Hl2 Hl3 Hl4 Hl5]
  · isplitl [Hl0]; · iexact Hl0
    isplitl [Hl1]; · iexact Hl1
    isplitl [Hl2]; · iexact Hl2
    isplitl [Hl3]; · iexact Hl3
    isplitl [Hl4]; · iexact Hl4
    iexact Hl5
  isplitl [Hc0 Hc1 Hc2 Hc3 Hc4 Hc5 Hc6 Hc7 Hout]
  · isplitl [Hc0]; · iexists _; iexact Hc0
    isplitl [Hc1]; · iexists _; iexact Hc1
    isplitl [Hc2]; · iexists _; iexact Hc2
    isplitl [Hc3]; · iexists _; iexact Hc3
    isplitl [Hc4]; · iexists _; iexact Hc4
    isplitl [Hc5]; · iexact Hc5
    isplitl [Hc6]; · iexact Hc6
    isplitl [Hc7]; · iexact Hc7
    iexists _; iexact Hout
  isplitl [Hat]; · iexact Hat
  isplitl [Hf0]; · iexact Hf0
  isplitl [Hf1]; · iexact Hf1
  isplitl [Hf2]; · iexact Hf2
  iexact Hf3

end Body

end Cert.Ring
-- ==== Proof.Launch.lean ====
/-
# The launch

From the machine's start to the devices' bodies and back: every protocol cell's invariant is allocated at once, each duty's token is
dealt to the device that pays it, each device gets the credit its peers owe it, and at the end the memory is read off.
-/
module

public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import proofs.«01_k».proof.Proof.Body

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The six local transfers' semaphores and the four families'. -/
abbrev osem : Fin 6 ⊕ (Fin 4 × Dev nD) → SemLoc sig
  | .inl i => .dma ⟨i.val, lt_of_lt_of_le i.isLt (by decide)⟩
  | .inr (f, s) => .dma (sq f s)

/-- These are the semaphores the kernel's call owns. -/
theorem ownSemFacts : Pipeline.OwnSemFacts cfg0.spec osem := by decide

/-- The protocol's cells on device `c`, all but the barrier's. -/
def famZero (c : Dev nD) : sProp 𝕄 := bigSep Finset.univ fun fs : Fin 4 × Dev nD => semVal (dCell fs.1 fs.2 c) 0

/-- A statement for each of four families is four statements. -/
theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The protocol's cells but the barrier's, family by family. -/
theorem famZero_eq (c : Dev nD) : (famZero c : sProp 𝕄) = iprop((bigSep Finset.univ fun s => semVal (dCell 0 s c) 0)
    ∗ (bigSep Finset.univ fun s => semVal (dCell 1 s c) 0) ∗ (bigSep Finset.univ fun s => semVal (dCell 2 s c) 0) ∗ bigSep Finset.univ fun s => semVal (dCell 3 s c) 0) := by
  unfold famZero
  rw [bigSep_univ_prod, fin4]

/-- The semaphores the call owns are the local copies' and the protocol's families. -/
theorem ownSems0_eq (c : Dev nD) : (Pipeline.ownSems0 (Ix := Unit) (Name := ℕ) (U := UU) (Lvl := ℕ) (Val := Elt F) (τ := τ) osem c : sProp 𝕄)
    = iprop(locals c ∗ famZero c) := by
  unfold Pipeline.ownSems0
  rw [bigSep_univ_sum, bigSep_univ_eq_bigSepL (I := Fin 6) [0, 1, 2, 3, 4, 5] (by decide) (by decide)]
  rfl

/-- The one semaphore that outlives the call is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A statement for every protocol semaphore is one for the barrier and one for each slot of each family. -/
theorem bigSep_kd (Φ : Kd → sProp 𝕄) : bigSep Finset.univ Φ = iprop(Φ (.inl ()) ∗ bigSep Finset.univ fun fs : Fin 4 × Dev nD => Φ (.inr fs)) := by
  rw [bigSep_univ_sum, bigSep_univ_eq_bigSepL (I := Unit) [()] (by decide) (by decide)]; rfl

/-- A device's semaphores at zero: the local copies', and every protocol semaphore. -/
theorem sems_cells (c : Dev nD) :
    iprop(Pipeline.ownSems0 (Ix := Unit) (Name := ℕ) (U := UU) (Lvl := ℕ) (Val := Elt F) (τ := τ) osem c ∗ unscopedSems0 c)
      ⊢ (iprop(locals c ∗ bigSep Finset.univ fun k : Kd => semVal (kcell (c, k)) 0) : sProp 𝕄) := by
  rw [ownSems0_eq, unscopedSems0_eq, bigSep_kd]
  unfold famZero
  iintro ⟨⟨Hl, Hf⟩, Hb⟩
  isplitl [Hl]; · iexact Hl
  isplitl [Hb]; · iexact Hb
  iexact Hf

/-! ## The launch element -/

/-- Different protocol semaphores lie in different places. -/
theorem kcell_injective : Function.Injective (kcell : Dev nD × Kd → GSem nD τ sig) := by
  rintro ⟨c, k⟩ ⟨c', k'⟩ h
  have h1 : c = c' := congrArg (fun g : GSem nD τ sig => g.1.1) h
  have h2 : smOf k = smOf k' := congrArg Prod.snd h
  have h3 : k = k' := Option.some.inj ((kdOf_smOf k).symm.trans ((congrArg kdOf h2).trans (kdOf_smOf k')))
  rw [h1, h3]

/-- All the protocol's semaphores. -/
def ringCells : Finset (GSem nD τ sig) := Finset.univ.map ⟨kcell, kcell_injective⟩

/-- The duty tokens minted for device `c`'s cells: at the barrier one for each device, at every other cell the device's own. -/
abbrev tokOf (cj : Dev nD × (Dev nD ⊕ (Fin 4 × Dev nD))) : GSem nD τ sig × ℕ × Dev nD := match cj.2 with
  | .inl d => (barCell cj.1, 0, d)
  | .inr (f, s) => (dCell f s cj.1, 0, cj.1)

/-- No duty token is minted twice. -/
theorem tokOf_injective : Function.Injective (tokOf : Dev nD × (Dev nD ⊕ (Fin 4 × Dev nD)) → GSem nD τ sig × ℕ × Dev nD) := by
  rintro ⟨c, j⟩ ⟨c', j'⟩ h
  have h1 : c = c' := by
    have := congrArg (fun x : GSem nD τ sig × ℕ × Dev nD => x.1.1.1) h
    rcases j with d | ⟨f, s⟩ <;> rcases j' with d' | ⟨f', s'⟩ <;> exact this
  subst h1
  have hk := congrArg (fun x : GSem nD τ sig × ℕ × Dev nD => kdOf x.1.2) h
  have hd := congrArg (fun x : GSem nD τ sig × ℕ × Dev nD => x.2.2) h
  rcases j with d | ⟨f, s⟩ <;> rcases j' with d' | ⟨f', s'⟩
  · have : d = d' := hd
    rw [this]
  · exact absurd ((kdOf_smOf (.inl ())).symm.trans (hk.trans (kdOf_smOf (.inr (f', s'))))) (by simp)
  · exact absurd ((kdOf_smOf (.inr (f, s))).symm.trans (hk.trans (kdOf_smOf (.inl ())))) (by simp)
  · have h3 := Option.some.inj ((kdOf_smOf (.inr (f, s))).symm.trans (hk.trans (kdOf_smOf (.inr (f', s')))))
    rw [Sum.inr.inj h3]

/-- All the duty tokens. -/
def ringToks : Finset (GSem nD τ sig × ℕ × Dev nD) := Finset.univ.map ⟨tokOf, tokOf_injective⟩

/-- What the program's ghost state starts as. -/
def u₀ : UU :=
  (initOf (Pipeline.cells cfgs cellOf_inj) (Pipeline.launchToks cfgs cellOf_inj), (initOf ringCells ringToks, (1 : Counters)))

/-- The starting ghost state splits in the pipeline's part and the exchange's. -/
theorem ownU_parts (a : UR sig nD τ) (b : UB) : (ownU ((a, (b, (1 : Counters))) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of device `c`'s own cells. -/
def toks (c : Dev nD) : sProp 𝕄 := iprop((bigSep Finset.univ fun d => dutyTok ER (barCell c) 0 d)
  ∗ (bigSep Finset.univ fun s => dutyTok ER (dCell 0 s c) 0 c) ∗ (bigSep Finset.univ fun s => dutyTok ER (dCell 1 s c) 0 c)
  ∗ (bigSep Finset.univ fun s => dutyTok ER (dCell 2 s c) 0 c) ∗ bigSep Finset.univ fun s => dutyTok ER (dCell 3 s c) 0 c)

/-- What the launch element deals device `c`. -/
def G (c : Dev nD) : sProp 𝕄 :=
  iprop((bigSep Finset.univ fun k : Kd => roundState ER (Rd m) (kcell (c, k)) 0)
    ∗ ((bigSep Finset.univ fun k : Kd => atPos ER (kcell (c, k)) 0 ∅ 0) ∗ bigSep Finset.univ fun k : Kd => reached ER (kcell (c, k)) 0) ∗ toks c)

/-- The exchange's part of it deals every device its cells' rounds and its tokens. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Kd => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_prod]; refine congrArg (BI.sep _) ?_; show (bigSep Finset.univ fun f : Fin 4 => bigSep Finset.univ fun s : Dev nD => (dutyTok ER (tokOf (c, Sum.inr (f, s))).1 (tokOf (c, Sum.inr (f, s))).2.1 (tokOf (c, Sum.inr (f, s))).2.2 : sProp 𝕄)) = _; rw [fin4 fun f => bigSep Finset.univ fun s => dutyTok ER (tokOf (c, Sum.inr (f, s))).1 (tokOf (c, Sum.inr (f, s))).2.1 (tokOf (c, Sum.inr (f, s))).2.2]
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

/-- A device's semaphores at zero and its rounds become the invariants of its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ ((bigSep Finset.univ fun k : Kd => atPos ER (kcell (c, k)) 0 ∅ 0) ∗ bigSep Finset.univ fun k : Kd => reached ER (kcell (c, k)) 0) ∗ toks c ∗ locals c) := by
  unfold G
  iintro ⟨Hos, Hus, Hst, Hat, Htok⟩
  ihave Hv := (sems_cells (F := F) c) $$ [Hos Hus]
  · isplitl [Hos] <;> iassumption
  icases Hv with ⟨Hl, Hv⟩
  imod (show iprop((bigSep Finset.univ fun k : Kd => semVal (kcell (c, k)) 0) ∗ bigSep Finset.univ fun k : Kd => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact BIBase.Entails.trans (bigSep_mono fun k _ => BIBase.Entails.trans (Rounds.body_intro ER (Rd m) (kcell (c, k))) inv_alloc) (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-- The tokens of the duties device `c` pays. -/
def payToks (c : Dev nD) : sProp 𝕄 := iprop((bigSep Finset.univ fun d => dutyTok ER (barCell d) 0 c)
  ∗ (bigSep Finset.univ fun s => dutyTok ER (dCell 0 s c) 0 c) ∗ (bigSep Finset.univ fun s => dutyTok ER (dCell 1 c s) 0 s)
  ∗ (bigSep Finset.univ fun s => dutyTok ER (dCell 2 s c) 0 c) ∗ bigSep Finset.univ fun s => dutyTok ER (dCell 3 c s) 0 s)

/-- Devices' devices, in either order. -/
theorem swap (Φ : Dev nD → Dev nD → sProp 𝕄) : (bigSep Finset.univ fun c => bigSep Finset.univ fun d => Φ c d) = bigSep Finset.univ fun d => bigSep Finset.univ fun c => Φ c d := by
  rw [← bigSep_univ_prod (fun p : Dev nD × Dev nD => Φ p.1 p.2), ← bigSep_univ_prod (fun p : Dev nD × Dev nD => Φ p.2 p.1),
    bigSep_univ_equiv (Equiv.prodComm (Dev nD) (Dev nD)) (fun p : Dev nD × Dev nD => Φ p.1 p.2)]
  rfl

/-- The tokens dealt to whom pays them. -/
theorem toks_dealt : (bigSep Finset.univ fun c : Dev nD => (toks c : sProp 𝕄)) ⊢ bigSep Finset.univ fun c : Dev nD => payToks c := by
  unfold toks payToks
  simp only [bigSep_sep']
  iintro ⟨H1, H2, H3, H4, H5⟩
  isplitl [H1]; · iapply (Entails.of_eq (swap fun (c d : Dev nD) => (dutyTok ER (barCell c) 0 d : sProp 𝕄))) $$ H1
  isplitl [H2]; · iexact H2
  isplitl [H3]; · iapply (Entails.of_eq (swap fun (c s : Dev nD) => (dutyTok ER (dCell 1 s c) 0 c : sProp 𝕄))) $$ H3
  isplitl [H4]; · iexact H4
  iapply (Entails.of_eq (swap fun (c s : Dev nD) => (dutyTok ER (dCell 3 s c) 0 c : sProp 𝕄))) $$ H5

/-- The tokens a device pays with, peer by peer; those at its own place are dropped. -/
theorem payToks_duty (c : Dev nD) : (payToks c : sProp 𝕄) ⊢ iprop(duty c 1 ∗ duty c 2 ∗ duty c 3) := by
  unfold payToks duty
  rw [around c, around c, around c, around c, around c]
  iintro ⟨⟨-, A1, A2, A3⟩, ⟨-, B1, B2, B3⟩, ⟨-, C1, C2, C3⟩, ⟨-, D1, D2, D3⟩, -, E1, E2, E3⟩
  isplitl [A1 B1 C1 D1 E1]
  · isplitl [A1]; · iexact A1
    isplitl [B1]; · iexact B1
    isplitl [C1]; · iexact C1
    isplitl [D1]; · iexact D1
    iexact E1
  isplitl [A2 B2 C2 D2 E2]
  · isplitl [A2]; · iexact A2
    isplitl [B2]; · iexact B2
    isplitl [C2]; · iexact C2
    isplitl [D2]; · iexact D2
    iexact E2
  isplitl [A3]; · iexact A3
  isplitl [B3]; · iexact B3
  isplitl [C3]; · iexact C3
  isplitl [D3]; · iexact D3
  iexact E3

/-- Every protocol cell's invariant and start. -/
def shared (K : Dev nD × Kd → ℕ) : sProp 𝕄 :=
  iprop((bigSep Finset.univ fun ck => cellInv ER (Rd m) (K ck) (kcell ck)) ∗ bigSep Finset.univ fun ck => reached ER (kcell ck) 0)

/-- What all devices share may be used any number of times. -/
instance shared_persistent (K : Dev nD × Kd → ℕ) : BI.Persistent (shared m K) := by unfold shared; infer_instance

/-- What the global step leaves device `c`. -/
def G' (c : Dev nD) : sProp 𝕄 := iprop(∃ K, shared m K ∗ ghost c ∗ locals c)

/-- The shared facts, a device's positions, its tokens and its local semaphores are its share of the protocol. -/
theorem dealt (K : Dev nD × Kd → ℕ) (c : Dev nD) :
    iprop(shared m K ∗ (bigSep Finset.univ fun k : Kd => atPos ER (kcell (c, k)) 0 ∅ 0) ∗ payToks c ∗ locals c) ⊢ G' m c := by
  unfold G' ghost fam
  rw [bigSep_kd, bigSep_univ_prod, fin4]
  iintro ⟨HS, ⟨Hb, H0, H1, H2, H3⟩, Hp, Hl⟩
  iexists K
  isplitl [HS]; · iexact HS
  isplitr [Hl]
  · isplitr [Hp]
    · isplitl [Hb]; · iexact Hb
      isplitl [H0]; · iexact H0
      isplitl [H1]; · iexact H1
      isplitl [H2]; · iexact H2
      iexact H3
    iapply (payToks_duty (F := F) c) $$ Hp
  iexact Hl

/-- A fact that may be reused can be used at every member of a family. -/
theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  BIBase.Entails.trans (sep_mono_left (BI.bigSep_of_persistent S R)) (by rw [← bigSep_sep']; exact bigSep_mono h)

/-- What the devices made one by one, the tokens passed to those who pay with them, is a share for every device. -/
theorem regroup :
    (bigSep Finset.univ fun c : Dev nD => iprop((bigSep Finset.univ fun k => iprop(∃ κ : ℕ, cellInv ER (Rd m) κ (kcell (c, k))))
          ∗ ((bigSep Finset.univ fun k : Kd => atPos ER (kcell (c, k)) 0 ∅ 0) ∗ bigSep Finset.univ fun k : Kd => reached ER (kcell (c, k)) 0) ∗ toks c ∗ locals c) : sProp 𝕄)
      ⊢ bigSep Finset.univ (G' m) := by
  rw [bigSep_sep', bigSep_sep', bigSep_sep', bigSep_sep', ← bigSep_univ_prod (fun ck : Dev nD × Kd => iprop(∃ κ : ℕ, cellInv ER (Rd m) κ (kcell ck))),
    ← bigSep_univ_prod (fun ck : Dev nD × Kd => (reached ER (kcell ck) 0 : sProp 𝕄))]
  iintro ⟨HI, ⟨Hat, #HR⟩, Htok, Hl⟩
  ihave HK := (BI.bigSep_exists_pi Finset.univ (fun (ck : Dev nD × Kd) (κ : ℕ) => (cellInv ER (Rd m) κ (kcell ck) : sProp 𝕄))) $$ HI
  icases HK with ⟨%K, #HI⟩
  ihave Htk := (toks_dealt (F := F)) $$ Htok
  iapply (with_shared (R := shared m K) fun c _ => dealt m K c)
  isplitr
  · unfold shared; isplitl; · iexact HI
    iexact HR
  · rw [bigSep_sep', bigSep_sep']
    isplitl [Hat]; · iexact Hat
    isplitl [Htk]; · iexact Htk
    iexact Hl

/-- Own and unscoped semaphores of every device at once, and what the launch dealt: each device's share of the protocol. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  BIBase.Entails.trans (BIBase.Entails.trans (bigSep_mono fun c _ => core_alloc m c) (bigSep_fupd _ _)) (BI.fupd_mono (regroup m))

/-! ## The credit -/

/-- What a device's peers owe it at the start. -/
def dueTo (c : Dev nD) : CellTallies nD τ sig Unit :=
  tallyAt (dCell 3 (peer 1 c) c) () N + tallyAt (dCell 3 (peer 2 c) c) () N + tallyAt (dCell 3 (peer 3 c) c) () N
    + tallyAt (dCell 1 (peer 1 c) c) () N + tallyAt (dCell 1 (peer 2 c) c) () N + tallyAt (dCell 1 (peer 3 c) c) () N
    + tallyAt (barCell c) () 1 + tallyAt (barCell c) () 1 + tallyAt (barCell c) () 1

/-- Going `k` places around the ring. -/
def turnBy (k : Dev nD) : Dev nD ≃ Dev nD :=
  ⟨peer k, peer ⟨(4 - k.val) % 4, Nat.mod_lt _ (by decide)⟩, fun c => by revert c k; decide, fun c => by revert c k; decide⟩

/-- The barrier units every device owes the device `k` places on are one unit on every barrier. -/
theorem sum_bar (k : Dev nD) : (∑ d : Dev nD, tallyAt (barCell (peer k d)) () 1 : CellTallies nD τ sig Unit) = ∑ c : Dev nD, tallyAt (barCell c) () 1 :=
  (turnBy k).sum_comp fun c => (tallyAt (barCell c) () 1 : CellTallies nD τ sig Unit)
/-- The credits every device owes the device `k` places on are, seen from the receivers, those the device `k'` places on owes. -/
theorem sum_dma (f : Fin 4) (k k' : Dev nD) (h : ∀ d, peer k' (peer k d) = d) :
    (∑ d : Dev nD, tallyAt (dCell f d (peer k d)) () N : CellTallies nD τ sig Unit) = ∑ c : Dev nD, tallyAt (dCell f (peer k' c) c) () N := by
  rw [← (turnBy k).sum_comp fun c => (tallyAt (dCell f (peer k' c) c) () N : CellTallies nD τ sig Unit)]
  refine Finset.sum_congr rfl fun d _ => ?_
  show _ = (tallyAt (dCell f (peer k' (peer k d)) (peer k d)) () N : CellTallies nD τ sig Unit)
  rw [h d]

/-- All that is owed by the devices is all that is due to them. -/
theorem sum_owed : (∑ d : Dev nD, oweAll d) = ∑ d : Dev nD, dueTo d := by
  unfold oweAll owe1 owe3 dueTo
  simp only [Finset.sum_add_distrib]
  rw [sum_bar 1, sum_bar 2, sum_bar 3, sum_dma 1 1 3 (by decide), sum_dma 1 2 2 (by decide), sum_dma 1 3 1 (by decide),
    sum_dma 3 1 3 (by decide), sum_dma 3 2 2 (by decide), sum_dma 3 3 1 (by decide)]

/-- What is due to a device is due on its own semaphores. -/
theorem dueTo_own (d : Dev nD) (g : GSem nD τ sig) (h : dueTo d g ≠ 0) : g.1 = (d.tc : Thread nD τ) := by
  by_contra hg
  have ht (sm : SemLoc sig) (n : ℕ) : (tallyAt ((d : Thread nD τ), sm) () n : CellTallies nD τ sig Unit) g = 0 := tallyAt_ne_cell (g := ((d : Thread nD τ), sm)) (g' := g) (fun h' => hg (congrArg Prod.fst h')) () n
  apply h
  unfold dueTo
  simp only [Pi.add_apply]
  rw [ht, ht, ht, ht, ht, ht, ht]
  simp only [add_zero]

/-- At the start a device holds the credits of what is due to it. -/
theorem creds (c : Dev nD) : (Pipeline.launchCred oweAll c : sProp 𝕄) ⊢ credits c := by
  rw [Pipeline.launchCred_of_sum oweAll dueTo sum_owed dueTo_own c]
  have hb : (tallyAt (barCell c) () 3 : CellTallies nD τ sig Unit) = tallyAt (barCell c) () 1 + tallyAt (barCell c) () 1 + tallyAt (barCell c) () 1 := by
    rw [tallyAt_add, tallyAt_add]
  have hs (a b : CellTallies nD τ sig Unit) : (cred (a + b) : sProp 𝕄) = iprop(cred a ∗ cred b) := BI.Entails.antisymm (cred_add _ _).1 (cred_add _ _).2
  unfold credits dueTo
  rw [hb]
  simp only [hs]
  iintro ⟨⟨⟨⟨⟨⟨⟨⟨G1, G2⟩, G3⟩, R1⟩, R2⟩, R3⟩, B1⟩, B2⟩, B3⟩
  isplitl [B1 B2 B3]
  · isplitl [B1 B2]
    · isplitl [B1]; · iexact B1
      iexact B2
    iexact B3
  isplitl [R1 R2 R3]
  · isplitl [R1]; · iexact R1
    isplitl [R2]; · iexact R2
    iexact R3
  isplitl [G1]; · iexact G1
  isplitl [G2]; · iexact G2
  iexact G3

/-! ## Before, between and after -/

/-- What device `c`'s body starts from, the protocol's records with it. -/
def atStart (c : Dev nD) : sProp 𝕄 := iprop(∃ K, records m K ∗ bodyPre m c)
/-- The same before the scratch buffers are handed over. -/
def opening (c : Dev nD) : sProp 𝕄 :=
  iprop(∃ K, records m K ∗ ghost c ∗ credits c ∗ argsPt m c ∗ (∃ f, bPt c main_v1 f) ∗ locals c)
/-- What remains of the body's end once the scoped state is given back. -/
def closing (c : Dev nD) : sProp 𝕄 := iprop(argsPt m c ∗ bPt c main_v1 (outV m c) ∗ unscopedSems0 c)

/-- The run's proof data: no window, one point, before it `atStart`, after it the body's end. -/
def dats (_ : Fin 1) (c : Dev nD) : Dat τ (Elt F) Unit ℕ UU ℕ cfg0 c where
  A w := w.elim0
  after w _ := w.elim0
  Φ t := match t with
    | ⟨0, _⟩ => atStart m c
    | ⟨_ + 1, _⟩ => bodyPost m c
  q _ := fullShare
  owed t := match t with
    | ⟨0, _⟩ => oweAll c
    | ⟨_ + 1, _⟩ => 0

/-- The kernel has no windowed operand. -/
theorem no_window (Φ : Fin cfg0.W → sProp 𝕄) : bigSep Finset.univ Φ = iprop(emp) :=
  bigSep_univ_eq_bigSepL [] (by decide) (by decide) Φ

/-- The body does what the call asks of it. -/
theorem body_obligation (c : Dev nD) : BodyObligation (dats (F := F) m 0 c) (defs₀ (F := F)) 𝒱₀ () Set.univ := fun t => by
  rw [show t = t0_0 from fin_N0 t]
  rw [no_window, no_window]
  show iprop(atStart m c ∗ (dats m 0 c).owesAt () (t0_0 : Fin cfg0.N).castSucc ∗ emp) ⊢ wpB c (bodyAt0 (F := F) t0_0)
    fun _ => iprop(bodyPost m c ∗ (dats m 0 c).owesAt () (t0_0 : Fin cfg0.N).succ ∗ emp)
  unfold atStart Dat.owesAt Pipeline.owesWithin
  iintro ⟨⟨%K, HR, Hp⟩, ⟨%W, %hW, HO⟩, -⟩
  iapply (body_spec m K c) $$ [HR Hp HO]
  · isplitl [HR]; · iexact HR
    isplitl [HO]; · unfold owing; iexists W; iexact HO
    iexact Hp
  unfold owing
  iintro ⟨⟨%W', HO⟩, Hp⟩
  isplitl [Hp]; · iexact Hp
  isplitl
  · iexists W'
    isplitr
    · ipureintro; exact fun _ _ => Or.inl trivial
    iexact HO
  iempintro

/-- What the launch gives a device opens the call. -/
theorem hX (c : Dev nD) :
    iprop(Pipeline.unscopedRestP Pipeline.Prefetch.none cfg0.spec c (fun b => m ((c : Thread nD τ).loc b)) ∗ levAts L lv
        ∗ Pipeline.launchCred oweAll c ∗ prngReg c (ρ c) ∗ G' m c)
      ⊢ |={Set.univ}=> iprop(opening m c ∗ emp) := by
  rw [Pipeline.unscopedRestP_none, unscopedRest0_eq]
  unfold opening G' shared records argsPt
  iintro ⟨⟨H0, H1, H2, H3, H4, Hv⟩, Hlev, Hcr, -, ⟨%K, ⟨HI, HR⟩, Hg, Hl⟩⟩
  ihave Hc := (creds (F := F) c) $$ Hcr
  imodintro
  isplitl
  · iexists K
    isplitl [Hlev HI HR]
    · isplitl [Hlev]; · iexact Hlev
      isplitl [HI]; · iexact HI
      iexact HR
    isplitl [Hg]; · iexact Hg
    isplitl [Hc]; · iexact Hc
    isplitl [H0 H1 H2 H3 H4]
    · isplitl [H0]; · iexact H0
      isplitl [H1]; · iexact H1
      isplitl [H2]; · iexact H2
      isplitl [H3]; · iexact H3
      iexact H4
    isplitl [Hv]; · iexists _; iexact Hv
    iexact Hl
  · iempintro

/-- The call's opening, with its scratch buffers, is what the body starts from. -/
theorem hin (c : Dev nD) :
    iprop(opening m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = atStart m c from rfl, scopedRest0_eq]
  unfold opening atStart bodyPre scratch
  iintro ⟨⟨%K, HR, Hg, Hc, Ha, Hv, Hl⟩, -, Hs⟩
  iexists K
  isplitl [HR]; · iexact HR
  isplitl [Hg]; · iexact Hg
  isplitl [Hc]; · iexact Hc
  isplitl [Ha]; · iexact Ha
  isplitl [Hv]; · iexact Hv
  isplitl [Hl]; · iexact Hl
  iexact Hs

/-- What the body leaves closes the call and gives back its semaphores and scratch buffers. -/
theorem hout (c : Dev nD) :
    (dats m 0 c).Φ (Fin.last cfg0.N) ⊢ iprop(closing m c ∗ Pipeline.ownSems0 osem c ∗ Pipeline.scopedRest cfg0.spec c) := by
  rw [show (dats m 0 c).Φ (Fin.last cfg0.N) = bodyPost m c from rfl, scopedRest0_eq, ownSems0_eq, famZero_eq]
  unfold bodyPost closing scratch
  rw [unscopedSems0_eq]
  iintro ⟨Ha, Hv, Hl, Hs, Hb, Hf⟩
  isplitl [Ha Hv Hb]
  · isplitl [Ha]; · iexact Ha
    isplitl [Hv]; · iexact Hv
    iexact Hb
  isplitr [Hs]
  · isplitl [Hl]; · iexact Hl
    iexact Hf
  iexact Hs

/-- There is no window to wait for. -/
theorem waits (c : Dev nD) : (levAts L lv : sProp 𝕄) ⊢ Pipeline.cellsWaits cfgs (dats m) () 0 c :=
  Pipeline.cellsWaits_intro cfgs (dats m) () 0 c fun w => w.elim0

/-! ## The run -/

/-- The arguments as they were. -/
def Same (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)

/-- What is read off device `c` at the end. -/
def QY (c : Dev nD) (s : MemSt nD τ sig (Elt F)) : Prop :=
  (Same m c s ∧ s.mem ((c : Thread nD τ).loc main_v1) = outV m c) ∧ ∀ sm : SemLoc sig, sm.isScoped .tc = false → s.sem ((c.tc : Thread nD τ), sm) = 0

/-- From what the call leaves a device one reads its arguments, its result and its semaphores off the final state. -/
theorem hY (c : Dev nD) (s' : Phys nD τ sig (Elt F)) :
    iprop(closing m c ∗ emp ∗ SI s') ⊢ |={Set.univ}=> iprop(⌜QY m c s'.mem⌝ ∗ SI s') := by
  unfold closing argsPt
  iintro ⟨⟨⟨H0, H1, H2, H3, H4⟩, Hv, Hu⟩, -, HSI⟩
  icombine HSI H0 gives %h0
  icombine HSI H1 gives %h1
  icombine HSI H2 gives %h2
  icombine HSI H3 gives %h3
  icombine HSI H4 gives %h4
  icombine HSI Hv gives %hv
  imod (Pipeline.unscopedSems0_read (X := unscopedSems0 c) (c := c) fupd_intro s') $$ [Hu HSI] with ⟨%hu, HSI⟩
  · isplitl [Hu] <;> iassumption
  imodintro
  isplitr
  · ipureintro
    exact ⟨⟨⟨Buf.eq_of_forall_mem_univ h0, Buf.eq_of_forall_mem_univ h1, Buf.eq_of_forall_mem_univ h2, Buf.eq_of_forall_mem_univ h3,
      Buf.eq_of_forall_mem_univ h4⟩, Buf.eq_of_forall_mem_univ hv⟩, hu⟩
  iexact HSI

set_option maxRecDepth 8000 in
/-- Every weakly fair execution on the four devices ends, from any memory with counters at zero, with every argument unchanged, the result
    at the sums the devices exchanged, and every counter at zero. -/
theorem run_main : θ_run defs (onTc (τ := τ) (main (F := F))) ⟨m, fun _ => 0, ρ⟩
    (fun r => (∀ c, Same m c r.2 ∧ r.2.mem ((c : Thread nD τ).loc main_v1) = outV m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := fun c w => w.elim0)
    (hdistinct := winFacts0.arr_inj)
    (O₀ := oweAll) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_parts _ _) $$ Hu
      icases H with ⟨HP, HX⟩
      imod (fund_ring m) $$ HX with HG
      imodintro
      isplitl [HP] <;> iassumption)
    (hglob := glob m)
    (hA := fun _ w => w.elim0) (hpf := fun _ k => k.elim0)
    (X := opening m) (Y := closing m) (Z := fun _ => iprop(emp))
    (hX := hX m ρ) (hin := hin m) (hout := hout m)
    (QY := QY m) (hY := hY m)
    (hQ := fun _ h hs => ⟨fun c => (h c).2.2.1, sem_eq_zero hs fun c => (h c).2.2.2⟩)

end Cert.Ring

end
-- ==== Proof.Frames.lean ====
/-
# The frames

The kernel's run read at the machine's words and at the extended reals, and the reference's run, with nothing said of what is computed.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import Idealize.ShloMosaic.Lib.Quiescent
public import proofs.«01_k».proof.Proof.Launch

@[expose] public section

set_option maxRecDepth 8192

noncomputable section

namespace Cert.Ring

open Idealize.ShloMosaic Idealize.ShloMosaic.TcCoe Idealize.SL.Sem

/-- The kernel, on the machine's words, ends with its arguments unchanged and every counter at zero. -/
theorem frame_kernel : Cert.quiescent_Kernel := fun m ρ _ =>
  (θ_run Cert.KernelIdeal.defs _ _).mono (fun _ h => ⟨fun c => (h.1 c).1, h.2⟩) (run_main (F := Bits) m ρ)

/-- So does it over the extended reals. -/
theorem frame_kernelIdeal : Cert.quiescent_KernelIdeal := fun m ρ _ =>
  (θ_run Cert.KernelIdeal.defs _ _).mono (fun _ h => ⟨fun c => (h.1 c).1, h.2⟩) (run_main (F := Ideal) m ρ)

/-- So it does where the precondition holds. -/
theorem frame_kernelIdeal_finite : Cert.quiescent_KernelIdeal_pre_finite_KernelIdeal := fun m ρ _ =>
  frame_kernelIdeal m ρ trivial

/-- The reference ends with its arguments unchanged, and has no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does where the precondition holds. -/
theorem frame_referenceIdeal_finite : Cert.quiescent_ReferenceIdeal_pre_finite_ReferenceIdeal := fun m ρ _ =>
  frame_referenceIdeal m ρ trivial

end Cert.Ring

end
-- ==== Proof.Softmax.lean ====
/-
# Softmax with and without the maximum taken off

The pure mathematics, over the extended reals: weighted means by exponentials of real scores do not change when one real is taken off
every score, and a real factor moves through the two sums that make a score.
-/
module

public import Idealize.ShloMosaic.Lib.IdealHost

@[expose] public section

noncomputable section

namespace Cert.Ring

open Idealize.ShloMosaic

/-- The f32 pattern `0x3E000000` is one eighth. -/
theorem ofBits_eighth : Ideal.ofBits .f32 0x3E000000#32 = (((1 : ℝ) / 8 : ℝ) : EReal) := by
  simp [Ideal.ofBits, Ideal.ieee, -EReal.coe_mul]; norm_num

/-- The f32 pattern `0xFF800000` is minus infinity. -/
theorem ofBits_neg_inf : Ideal.ofBits .f32 0xFF800000#32 = (⊥ : EReal) := by
  simp [Ideal.ofBits, Ideal.ieee]

/-- The f32 pattern `0x7F800000` is plus infinity. -/
theorem ofBits_pos_inf : Ideal.ofBits .f32 0x7F800000#32 = (⊤ : EReal) := by
  simp [Ideal.ofBits, Ideal.ieee]

/-- A real sum, read in the extended reals, is the sum of its terms read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative comes out of a sum of extended reals. -/
theorem sum_mul_coe {ι : Type} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.2 hc) (EReal.coe_ne_top c)]

/-- The exponential of a real. -/
theorem exp_coe (r : ℝ) : Ideal.exp (r : EReal) = ((Real.exp r : ℝ) : EReal) := rfl

/-- The weighted mean with one real taken off every score is the weighted sum times the reciprocal of the normalizer. -/
theorem softmax_shift {n : ℕ} (hn : 0 < n) (s : Fin n → ℝ) (M : ℝ) (v : Fin n → EReal) :
    Ideal.div (∑ j, v j * Ideal.exp ((s j : EReal) - (M : EReal))) (∑ j, Ideal.exp ((s j : EReal) - (M : EReal)))
      = (∑ j, Ideal.exp (s j : EReal) * v j) * Ideal.div 1 (∑ j, Ideal.exp (s j : EReal)) := by
  have e : ∀ j, Ideal.exp ((s j : EReal) - (M : EReal)) = ((Real.exp (s j) * Real.exp (-M) : ℝ) : EReal) := fun j => by
    rw [← EReal.coe_sub, exp_coe, sub_eq_add_neg, Real.exp_add]
  have hE : 0 < ∑ j, Real.exp (s j) :=
    Finset.sum_pos (fun j _ => Real.exp_pos _) ⟨⟨0, hn⟩, Finset.mem_univ _⟩
  have hc : 0 < Real.exp (-M) := Real.exp_pos _
  have d1 : ∑ j, Ideal.exp ((s j : EReal) - (M : EReal)) = (((∑ j, Real.exp (s j)) * Real.exp (-M) : ℝ) : EReal) := by
    rw [Finset.sum_congr rfl fun j _ => e j, ← coe_sum, Finset.sum_mul]
  have d2 : ∑ j, Ideal.exp (s j : EReal) = ((∑ j, Real.exp (s j) : ℝ) : EReal) := by
    rw [coe_sum]; rfl
  have n1 : ∑ j, v j * Ideal.exp ((s j : EReal) - (M : EReal))
      = (∑ j, Ideal.exp (s j : EReal) * v j) * ((Real.exp (-M) : ℝ) : EReal) := by
    rw [← sum_mul_coe _ _ _ hc.le]
    refine Finset.sum_congr rfl fun j _ => ?_
    rw [e j, EReal.coe_mul, exp_coe, ← mul_assoc, mul_comm (v j)]
  rw [d1, d2, n1, Ideal.div_coe (mul_pos hE hc).ne', Ideal.div_coe hE.ne', one_mul, mul_assoc, ← EReal.coe_mul]
  congr 2
  field_simp

/-- The greatest of finitely many reals, at least one, starting from minus infinity, is a real. -/
theorem fold_max_real {n : ℕ} (hn : 0 < n) (s : Fin n → ℝ) :
    ∃ M : ℝ, max (⊥ : EReal) (Finset.fold max (⊥ : EReal) (fun j => (s j : EReal)) Finset.univ) = (M : EReal) := by
  have hb : (⊥ : EReal) < Finset.fold max (⊥ : EReal) (fun j => (s j : EReal)) Finset.univ :=
    (Finset.lt_fold_max _).2 (.inr ⟨⟨0, hn⟩, Finset.mem_univ _, EReal.bot_lt_coe _⟩)
  have ht : Finset.fold max (⊥ : EReal) (fun j => (s j : EReal)) Finset.univ < ⊤ :=
    (Finset.fold_max_lt _).2 ⟨bot_lt_top, fun j _ => EReal.coe_lt_top _⟩
  exact ⟨_, (max_eq_right bot_le).trans (EReal.coe_toReal ht.ne hb.ne').symm⟩

/-- The score with the real factor inside the first projection is the score times the factor; it is a real. -/
theorem score_scale {n l : ℕ} (c : ℝ) (x y : Fin l → ℝ) (w u : Fin l → Fin n → ℝ) :
    (∑ d, (∑ k, (x k : EReal) * ((w k d : EReal) * (c : EReal))) * ∑ k, (y k : EReal) * (u k d : EReal))
        = (∑ d, (∑ k, (x k : EReal) * (w k d : EReal)) * ∑ k, (y k : EReal) * (u k d : EReal)) * (c : EReal)
      ∧ ∃ r : ℝ, (∑ d, (∑ k, (x k : EReal) * (w k d : EReal)) * ∑ k, (y k : EReal) * (u k d : EReal)) * (c : EReal) = (r : EReal) := by
  simp only [← EReal.coe_mul, ← coe_sum]
  refine ⟨?_, _, rfl⟩
  rw [EReal.coe_eq_coe_iff, Finset.sum_mul]
  refine Finset.sum_congr rfl fun d _ => ?_
  rw [mul_right_comm]
  congr 1
  rw [Finset.sum_mul]
  exact Finset.sum_congr rfl fun k _ => (mul_assoc _ _ _).symm

/-- An extended real whose absolute value is below plus infinity is a real. -/
theorem real_of_abs_lt {a : EReal} (h : max a (-a) < ⊤) : ∃ r : ℝ, a = (r : EReal) := by
  have h1 : a ≠ ⊤ := (lt_of_le_of_lt (le_max_left _ _) h).ne
  have h2 : a ≠ ⊥ := fun e => by
    subst e
    simp at h
  exact ⟨a.toReal, (EReal.coe_toReal h1 h2).symm⟩

end Cert.Ring
-- ==== Proof.KernelValue.lean ====
/-
# The kernel's result at an index
-/
module

public import proofs.«01_k».proof.Proof.PartsC
public import Idealize.ShloMosaic.Lib.Pointwise
public import Idealize.ShloMosaic.Lib.IdealHost

@[expose] public section

set_option maxRecDepth 16384

noncomputable section

namespace Cert.Ring

open Cert.KernelIdeal Cert.KernelIdeal.Gen
open Idealize.ShloMosaic

/-- A column of head `h`, place `d`, in a device's block of eight heads of 64. -/
def hcol (h : Fin 8) (d : Fin 64) : Fin 512 := ⟨64 * h.val + d.val, by omega⟩

/-- The values, head by head: the rows' products with the columns of the head. -/
theorem pay10_at (x : Vec Ideal S2x128x512 .f32) (w : Vec Ideal S512x512 .f32) (g : Fin 16) (b : Fin 2) (h : Fin 8)
    (hg : g.val = 8 * b.val + h.val) (j : Fin 128) (d : Fin 64) :
    k0_pay10 x w (ix3 g j d) = ∑ k : Fin 512, x (ix3 b j k) * w (ix2 k (hcol h d)) := by
  pointwise [k0_pay10, k0_pay9]
  have e1 : ∀ p, (⟨(g.val / 8 * 128 + j.val) / 128, p⟩ : Fin 2) = b := fun _ => Fin.ext (by simp only; omega)
  have e2 : ∀ p, (⟨g.val % 8 * 64 + d.val, p⟩ : Fin 512) = hcol h d := fun _ => Fin.ext (by simp only [hcol]; omega)
  simp only [e1, e2]

/-- The score of rows `i` and `j` of batch `b` in head `h`, with the factor inside the first projection. -/
def kscore (x : Vec Ideal S2x128x512 .f32) (w u : Vec Ideal S512x512 .f32) (b : Fin 2) (h : Fin 8) (i j : Fin 128) : EReal :=
  ∑ d : Fin 64, (∑ k : Fin 512, x (ix3 b i k) * (w (ix2 k (hcol h d)) * Ideal.ofBits .f32 0x3E000000#32))
    * ∑ k : Fin 512, x (ix3 b j k) * u (ix2 k (hcol h d))

/-- The weights: the exponentials of the scores. -/
theorem pay11_at (x : Vec Ideal S2x128x512 .f32) (w u : Vec Ideal S512x512 .f32) (g : Fin 16) (b : Fin 2) (h : Fin 8)
    (hg : g.val = 8 * b.val + h.val) (i j : Fin 128) :
    k0_pay11 x w u (ix3 g i j) = Ideal.exp (kscore x w u b h i j) := by
  pointwise [k0_pay11, k0_pay9]
  have e1 : ∀ (j : Fin 128) p, (⟨(g.val / 8 * 128 + j.val) / 128, p⟩ : Fin 2) = b := fun _ _ => Fin.ext (by simp only; omega)
  have e2 : ∀ (d : Fin 64) p, (⟨g.val % 8 * 64 + d.val, p⟩ : Fin 512) = hcol h d := fun _ _ => Fin.ext (by simp only [hcol]; omega)
  simp only [e1, e2]
  rfl

/-- The normalizer: the sum of the weights of a row. -/
theorem pay12_at (x : Vec Ideal S2x128x512 .f32) (w u : Vec Ideal S512x512 .f32) (g : Fin 16) (b : Fin 2) (h : Fin 8)
    (hg : g.val = 8 * b.val + h.val) (i : Fin 128) :
    k0_pay12 x w u (ix3 g i 0) = ∑ j : Fin 128, Ideal.exp (kscore x w u b h i j) := by
  pointwise [k0_pay12]
  exact Finset.sum_congr rfl fun j _ => pay11_at x w u g b h hg i j

/-- One element of a device's attention output: the weighted sum of the values times the reciprocal of the normalizer. -/
def kav (x : Vec Ideal S2x128x512 .f32) (w u v : Vec Ideal S512x512 .f32) (b : Fin 2) (i : Fin 128) (h : Fin 8) (d : Fin 64) : EReal :=
  (∑ j : Fin 128, Ideal.exp (kscore x w u b h i j) * ∑ k : Fin 512, x (ix3 b j k) * v (ix2 k (hcol h d)))
    * Ideal.div 1 (∑ j : Fin 128, Ideal.exp (kscore x w u b h i j))

/-- A device's attention output, rows of both batches in one axis and heads in the other. -/
theorem pay14_at (x : Vec Ideal S2x128x512 .f32) (w u v : Vec Ideal S512x512 .f32) (R : Fin 256) (b : Fin 2) (i : Fin 128)
    (hR : R.val = 128 * b.val + i.val) (h : Fin 8) (d : Fin 64) :
    k0_pay14 (k0_pay10 x v) (k0_pay12 x w u) (k0_pay13 x w u) (constant S16x128x64 .f32 0x00000000#32) (ix2 R (hcol h d))
      = kav x w u v b i h d := by
  have hb := b.isLt
  have hh := h.isLt
  pointwise [k0_pay14, k0_pay13]
  have hc : (hcol h d).val = 64 * h.val + d.val := rfl
  have e0 : R.val / 128 * 8 + (hcol h d).val / 64 = 8 * b.val + h.val := by omega
  have e1 : ∀ p, (⟨R.val % 128, p⟩ : Fin 128) = i := fun _ => Fin.ext (by simp only; omega)
  have e2 : ∀ p, (⟨(hcol h d).val % 64, p⟩ : Fin 64) = d := fun _ => Fin.ext (by simp only; omega)
  simp only [e1, e2]
  unfold kav
  rw [pay12_at x w u _ b h e0 i]
  refine congrArg (· * _) (Finset.sum_congr rfl fun j _ => ?_)
  exact congrArg₂ (· * ·) (pay11_at x w u ⟨R.val / 128 * 8 + (hcol h d).val / 64, by omega⟩ b h e0 i j) (pay10_at x v _ b h e0 j d)

/-- A chunk: 64 rows of the attention output times the output weights. -/
theorem chunkOf_at (s : Dev nD) (a : FVec Ideal S256x512 .bf16) (w : FVec Ideal S512x512 .bf16) (r : Fin 64) (n : Fin 512) :
    chunkOf s a w (ix3 0 r n) = ∑ e : Fin 512, a (ix2 ⟨64 * s.val + r.val, by have : s.val < 4 := s.isLt; omega⟩ e) * w (ix2 e n) := by
  fin_cases s <;> pointwise [chunkOf] <;> rfl

/-- The sum of the four chunks. -/
theorem red_at (m : (ℓ : Loc nD τ sig) → Buf (Elt Ideal) ℓ) (s : Dev nD) (r : Fin 64) (n : Fin 512) :
    red m s (ix3 0 r n)
      = chunk m 0 s (ix3 0 r n) + chunk m 1 s (ix3 0 r n) + (chunk m 2 s (ix3 0 r n) + chunk m 3 s (ix3 0 r n)) := by
  pointwise [red, k0_pay34, k0_pay33, k0_pay32]

/-- One device's part of one element of the result. -/
def part (m : (ℓ : Loc nD τ sig) → Buf (Elt Ideal) ℓ) (c : Dev nD) (b : Fin 2) (i : Fin 128) (n : Fin 512) : EReal :=
  ∑ e : Fin 512, kav (xA m c) (wqA m c) (wkA m c) (wvA m c) b i ⟨e.val / 64, by omega⟩ ⟨e.val % 64, by omega⟩ * woA m c (ix2 e n)

/-- A device's chunk, row by row of the result. -/
theorem chunk_at (m : (ℓ : Loc nD τ sig) → Buf (Elt Ideal) ℓ) (c s : Dev nD) (r : Fin 64) (n : Fin 512) (b : Fin 2) (i : Fin 128)
    (h : 64 * s.val + r.val = 128 * b.val + i.val) : chunk m c s (ix3 0 r n) = part m c b i n := by
  unfold chunk part
  rw [chunkOf_at]
  refine Finset.sum_congr rfl fun e _ => ?_
  have he : e = hcol ⟨e.val / 64, by omega⟩ ⟨e.val % 64, by omega⟩ := Fin.ext (by simp only [hcol]; omega)
  have ha := pay14_at (xA m c) (wqA m c) (wkA m c) (wvA m c) ⟨64 * s.val + r.val, by have : s.val < 4 := s.isLt; omega⟩ b i h
    ⟨e.val / 64, by omega⟩ ⟨e.val % 64, by omega⟩
  rw [← he] at ha
  exact congrArg₂ (· * ·) ha (by pointwise [k0_pay15])

/-- The kernel's result at an index: the four devices' parts, added in pairs. -/
theorem outC_at (m : (ℓ : Loc nD τ sig) → Buf (Elt Ideal) ℓ) (b : Fin 2) (i : Fin 128) (n : Fin 512) :
    outC m (ix3 b i n) = part m 0 b i n + part m 1 b i n + (part m 2 b i n + part m 3 b i n) := by
  have h : ∀ c, chunk m c (blk (ix3 b i n)) (ix3 0 ⟨i.val % 64, by omega⟩ n) = part m c b i n := fun c =>
    chunk_at m c _ _ n b i (by
      show 64 * (2 * b.val + i.val / 64) + i.val % 64 = 128 * b.val + i.val
      omega)
  have e : rowIn (ix3 b i n) = ix3 0 ⟨i.val % 64, by omega⟩ n := by
    funext a
    match a with
    | 0 => rfl
    | 1 => rfl
    | 2 => rfl
  unfold outC
  rw [e, red_at, h, h, h, h]

end Cert.Ring
-- ==== Proof.RefValue.lean ====
/-
# The reference's result at an index
-/
module

public import proofs.«01_k».proof.Proof.Gen.ReferenceIdeal
public import proofs.«01_k».proof.Proof.Gen.ReferenceIdeal.Run
public import Idealize.ShloMosaic.Lib.Pointwise
public import Idealize.ShloMosaic.Lib.IdealHost

@[expose] public section

set_option maxRecDepth 16384

noncomputable section

namespace Cert.Ring.Ref

open Cert.ReferenceIdeal Cert.ReferenceIdeal.Gen
open Idealize.ShloMosaic
open Cert.ReferenceIdeal.Facts

/-- A projection split into heads. -/
def rq (x : FVec Ideal S2x128x512 .f32) (w : FVec Ideal S512x2048 .f32) : FVec Ideal S2x128x32x64 .f32 :=
  shapeCast _ (Host.dotGeneral dot_S2x128x512_S512x2048_S2x128x2048_2_0_01_1_n_n none x w) shapeCasts_S2x128x2048_S2x128x32x64

/-- The scores. -/
def rs (q k : FVec Ideal S2x128x32x64 .f32) : FVec Ideal S2x32x128x128 .f32 :=
  mulf (Host.dotGeneral dot_S2x128x32x64_S2x128x32x64_S2x32x128x128_3_3_1_1_02_02 none q k) (broadcastInDim S2x32x128x128 ![] bcast_S_S2x32x128x128 (constant S_ .f32 0x3E000000#32))

/-- The running maximum. -/
def rm (s : FVec Ideal S2x32x128x128 .f32) : FVec Ideal S2x32x128x1 .f32 :=
  maximumf (broadcastInDim S2x32x128x1 ![] bcast_S_S2x32x128x1 (constant S_ .f32 0xFF800000#32)) (broadcastInDim S2x32x128x1 ![0, 1, 2] bcast_S2x32x128_S2x32x128x1_0_1_2 (Host.reduce FloatOps.maximumf s (constant S_ .f32 0xFF800000#32) reducesTo_S2x32x128x128_S2x32x128_d3 h_S_))

/-- The rescaling of what came before. -/
def ra (M : FVec Ideal S2x32x128x1 .f32) : FVec Ideal S2x32x128x1 .f32 :=
  Host.exp (subf (broadcastInDim S2x32x128x1 ![] bcast_S_S2x32x128x1 (constant S_ .f32 0xFF800000#32)) M)

/-- The weights. -/
def rp (s : FVec Ideal S2x32x128x128 .f32) (M : FVec Ideal S2x32x128x1 .f32) : FVec Ideal S2x32x128x128 .f32 :=
  Host.exp (subf s (broadcastInDim S2x32x128x128 ![0, 1, 2, 3] bcast_S2x32x128x1_S2x32x128x128_0_1_2_3 M))

/-- The normalizer. -/
def rl (a : FVec Ideal S2x32x128x1 .f32) (p : FVec Ideal S2x32x128x128 .f32) : FVec Ideal S2x32x128x1 .f32 :=
  addf (mulf (broadcastInDim S2x32x128x1 ![] bcast_S_S2x32x128x1 (constant S_ .f32 0x00000000#32)) a) (broadcastInDim S2x32x128x1 ![0, 1, 2] bcast_S2x32x128_S2x32x128x1_0_1_2 (Host.reduceAdd p (constant S_ .f32 0x00000000#32) reducesTo_S2x32x128x128_S2x32x128_d3 h_S_))

/-- The head outputs. -/
def ro (v : FVec Ideal S2x128x32x64 .f32) (a l : FVec Ideal S2x32x128x1 .f32) (p : FVec Ideal S2x32x128x128 .f32) : FVec Ideal S2x128x2048 .f32 :=
  shapeCast _ (Host.divf (addf (mulf (broadcastInDim S2x128x32x64 ![] bcast_S_S2x128x32x64 (constant S_ .f32 0x00000000#32)) (broadcastInDim S2x128x32x64 ![0, 1, 2, 3] bcast_S2x128x32x1_S2x128x32x64_0_1_2_3 (transpose S2x128x32x1 [0, 2, 1, 3] a transposes_S2x32x128x1_S2x128x32x1_0_2_1_3))) (transpose S2x128x32x64 [0, 3, 1, 2] (Host.dotGeneral dot_S2x128x32x64_S2x32x128x128_S2x32x64x128_1_3_3_2_02_01 none v p) transposes_S2x32x64x128_S2x128x32x64_0_3_1_2)) (broadcastInDim S2x128x32x64 ![0, 1, 2, 3] bcast_S2x128x32x1_S2x128x32x64_0_1_2_3 (transpose S2x128x32x1 [0, 2, 1, 3] l transposes_S2x32x128x1_S2x128x32x1_0_2_1_3))) shapeCasts_S2x128x32x64_S2x128x2048

/-- The reference's result as a composition of these stages. -/
def rOut (x : FVec Ideal S2x128x512 .f32) (wq : FVec Ideal S512x2048 .f32) (wo : FVec Ideal S2048x512 .f32) (wk wv : FVec Ideal S512x2048 .f32) : FVec Ideal S2x128x512 .bf16 :=
  let s := rs (rq x wq) (rq x wk)
  let M := rm s
  truncf .bf16 (Host.dotGeneral dot_S2x128x2048_S2048x512_S2x128x512_2_0_01_1_n_n none (ro (rq x wv) (ra M) (rl (ra M) (rp s M)) (rp s M)) wo) bitsLt_bf16_f32

/-- The run's term is that composition. -/
theorem res_eq (m : (ℓ : Loc nD τ sig) → Buf (Elt Ideal) ℓ) (c : Dev nD) :
    Cert.ReferenceIdeal.Value.res_main_v35 m c = rOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Cert.ReferenceIdeal.Value.res_main_v35
  rfl

/-- A projection at an index. -/
theorem rq_at (x : FVec Ideal S2x128x512 .f32) (w : FVec Ideal S512x2048 .f32) (b : Fin 2) (i : Fin 128) (h : Fin 32) (d : Fin 64) :
    rq x w (ix4 b i h d) = ∑ k : Fin 512, x (ix3 b i k) * w (ix2 k ⟨h.val * 64 + d.val, by omega⟩) := by
  pointwise [rq]

/-- A score at an index. -/
theorem rs_at (q k : FVec Ideal S2x128x32x64 .f32) (b : Fin 2) (h : Fin 32) (i j : Fin 128) :
    rs q k (ix4 b h i j) = (∑ d : Fin 64, q (ix4 b i h d) * k (ix4 b j h d)) * Ideal.ofBits .f32 0x3E000000#32 := by
  pointwise [rs]

/-- The greatest score of a row, at an index. -/
theorem rm_at (s : FVec Ideal S2x32x128x128 .f32) (b : Fin 2) (h : Fin 32) (i : Fin 128) :
    rm s (ix4 b h i 0) = max (Ideal.ofBits .f32 0xFF800000#32) (Finset.fold max (Ideal.ofBits .f32 0xFF800000#32) (fun j : Fin 128 => s (ix4 b h i j)) Finset.univ) := by
  pointwise [rm]

/-- A weight at an index. -/
theorem rp_at (s : FVec Ideal S2x32x128x128 .f32) (M : FVec Ideal S2x32x128x1 .f32) (b : Fin 2) (h : Fin 32) (i j : Fin 128) :
    rp s M (ix4 b h i j) = Ideal.exp (s (ix4 b h i j) - M (ix4 b h i 0)) := by
  pointwise [rp]

/-- A normalizer at an index. -/
theorem rl_at (M : FVec Ideal S2x32x128x1 .f32) (s : FVec Ideal S2x32x128x128 .f32) (b : Fin 2) (h : Fin 32) (i : Fin 128) :
    rl M s (ix4 b h i 0) = ∑ j : Fin 128, s (ix4 b h i j) := by
  pointwise [rl]
  simp only [zero_mul, zero_add]

/-- A head output at an index. -/
theorem ro_at (v : FVec Ideal S2x128x32x64 .f32) (a l : FVec Ideal S2x32x128x1 .f32) (p : FVec Ideal S2x32x128x128 .f32) (b : Fin 2) (i : Fin 128) (r : Fin 2048) :
    ro v a l p (ix3 b i r) = Ideal.div (∑ j : Fin 128, v (ix4 b j ⟨r.val / 64, by omega⟩ ⟨r.val % 64, by omega⟩) * p (ix4 b ⟨r.val / 64, by omega⟩ i j)) (l (ix4 b ⟨r.val / 64, by omega⟩ i 0)) := by
  pointwise [ro]
  simp only [zero_mul, zero_add]

/-- The result at an index. -/
theorem out_at (o : FVec Ideal S2x128x2048 .f32) (w : FVec Ideal S2048x512 .f32) (b : Fin 2) (i : Fin 128) (n : Fin 512) :
    (truncf .bf16 (Host.dotGeneral dot_S2x128x2048_S2048x512_S2x128x512_2_0_01_1_n_n none o w) bitsLt_bf16_f32 : FVec Ideal S2x128x512 .bf16) (ix3 b i n) = ∑ r : Fin 2048, o (ix3 b i r) * w (ix2 r n) := by
  pointwise []

end Cert.Ring.Ref
-- ==== Proof.Value.lean ====
/-
# The kernel's result is the reference's

From memories that hold the same arrays, the kernel's cut by columns and rows across the four devices, with finite input rows and
finite score weights.
-/
module

public import proofs.«01_k».proof.Proof.Softmax
public import proofs.«01_k».proof.Proof.KernelValue
public import proofs.«01_k».proof.Proof.RefValue

@[expose] public section

set_option maxRecDepth 16384

noncomputable section

namespace Cert.Ring

open Idealize.ShloMosaic

/-- Column `64 h + d` of device `c`'s block, in the whole array. -/
def wcol (c : Fin 4) (h : Fin 8) (d : Fin 64) : Fin 2048 := ⟨512 * c.val + 64 * h.val + d.val, by omega⟩

/-- Head by head, the reference's output is the device's that holds the head. -/
theorem head_eq (X : FVec Ideal Cert.ReferenceIdeal.S2x128x512 .f32) (Q K V : FVec Ideal Cert.ReferenceIdeal.S512x2048 .f32)
    (x : Vec Ideal Cert.KernelIdeal.S2x128x512 .f32) (q k v : Vec Ideal Cert.KernelIdeal.S512x512 .f32)
    (c : Fin 4) (hx : ∀ b i l, x (ix3 b i l) = X (ix3 b i l))
    (hq : ∀ l h d, q (ix2 l (hcol h d)) = Q (ix2 l (wcol c h d)))
    (hk : ∀ l h d, k (ix2 l (hcol h d)) = K (ix2 l (wcol c h d)))
    (hv : ∀ l h d, v (ix2 l (hcol h d)) = V (ix2 l (wcol c h d)))
    (fx : ∀ i, ∃ r : ℝ, x i = (r : EReal)) (fq : ∀ i, ∃ r : ℝ, q i = (r : EReal)) (fk : ∀ i, ∃ r : ℝ, k i = (r : EReal))
    (b : Fin 2) (i : Fin 128) (h : Fin 8) (d : Fin 64) :
    let s := Ref.rs (Ref.rq X Q) (Ref.rq X K)
    let M := Ref.rm s
    Ref.ro (Ref.rq X V) (Ref.ra M) (Ref.rl (Ref.ra M) (Ref.rp s M)) (Ref.rp s M) (ix3 b i (wcol c h d)) = kav x q k v b i h d := by
  intro s M
  choose fx' hfx using fx
  choose fq' hfq using fq
  choose fk' hfk using fk
  -- the scores
  have sc : ∀ (H : Fin 32), H.val = 8 * c.val + h.val → ∀ j, ∃ r : ℝ, kscore x q k b h i j = (r : EReal) ∧ s (ix4 b H i j) = (r : EReal) := by
    intro H hH j
    have hcolH : ∀ (d : Fin 64) p, (⟨H.val * 64 + d.val, p⟩ : Fin 2048) = wcol c h d := fun _ _ => Fin.ext (by simp only [wcol]; omega)
    have e : s (ix4 b H i j) = (∑ d : Fin 64, (∑ l : Fin 512, x (ix3 b i l) * q (ix2 l (hcol h d)))
        * ∑ l : Fin 512, x (ix3 b j l) * k (ix2 l (hcol h d))) * Ideal.ofBits .f32 0x3E000000#32 := by
      show Ref.rs (Ref.rq X Q) (Ref.rq X K) (ix4 b H i j) = _
      rw [Ref.rs_at]
      simp only [Ref.rq_at, hcolH, hx, hq, hk]
    have key := score_scale (1 / 8 : ℝ) (fun l : Fin 512 => fx' (ix3 b i l)) (fun l => fx' (ix3 b j l))
      (fun l (d : Fin 64) => fq' (ix2 l (hcol h d))) (fun l d => fk' (ix2 l (hcol h d)))
    simp only [← hfx, ← hfq, ← hfk, ← ofBits_eighth] at key
    obtain ⟨r, hr⟩ := key.2
    exact ⟨r, key.1.trans hr, e.trans hr⟩
  have hc : (wcol c h d).val = 512 * c.val + 64 * h.val + d.val := rfl
  obtain ⟨H, hHd⟩ : ∃ H : Fin 32, H = ⟨(wcol c h d).val / 64, by omega⟩ := ⟨_, rfl⟩
  have hH : H.val = 8 * c.val + h.val := by rw [hHd]; simp only; omega
  have hd : ∀ p, (⟨(wcol c h d).val % 64, p⟩ : Fin 64) = d := fun _ => Fin.ext (by simp only; omega)
  have hcol' : ∀ p, (⟨H.val * 64 + d.val, p⟩ : Fin 2048) = wcol c h d := fun _ => Fin.ext (by simp only; omega)
  choose σ hσ using sc H hH
  -- the greatest score is a real
  obtain ⟨μ, hμ⟩ := fold_max_real (by decide : 0 < 128) σ
  have hM : M (ix4 b H i 0) = (μ : EReal) := by
    show Ref.rm s (ix4 b H i 0) = _
    rw [Ref.rm_at, ofBits_neg_inf, ← hμ]
    exact congrArg (fun f => max ⊥ (Finset.fold max ⊥ f Finset.univ)) (funext fun j => (hσ j).2)
  have hp : ∀ j, Ref.rp s M (ix4 b H i j) = Ideal.exp ((σ j : EReal) - (μ : EReal)) := fun j => by
    rw [Ref.rp_at, hM, (hσ j).2]
  rw [Ref.ro_at, ← hHd]
  simp only [hd, Ref.rl_at, hp, Ref.rq_at, hcol']
  rw [softmax_shift (by decide : 0 < 128) σ μ]
  unfold kav
  simp only [(hσ _).1, hv, hx]

/-- The kernel's result, on every device, is the reference's. -/
theorem value_eq (m : (ℓ : Loc Cert.KernelIdeal.nD Cert.KernelIdeal.τ Cert.KernelIdeal.sig) → Buf (Elt Ideal) ℓ)
    (X : FVec Ideal Cert.ReferenceIdeal.S2x128x512 .f32) (Q : FVec Ideal Cert.ReferenceIdeal.S512x2048 .f32)
    (O : FVec Ideal Cert.ReferenceIdeal.S2048x512 .f32) (K V : FVec Ideal Cert.ReferenceIdeal.S512x2048 .f32)
    (hx : ∀ c b i l, xA m c (ix3 b i l) = X (ix3 b i l))
    (hq : ∀ (c : Fin 4) l h d, wqA m c (ix2 l (hcol h d)) = Q (ix2 l (wcol c h d)))
    (ho : ∀ (c : Fin 4) h d n, woA m c (ix2 (hcol h d) n) = O (ix2 (wcol c h d) n))
    (hk : ∀ (c : Fin 4) l h d, wkA m c (ix2 l (hcol h d)) = K (ix2 l (wcol c h d)))
    (hv : ∀ (c : Fin 4) l h d, wvA m c (ix2 l (hcol h d)) = V (ix2 l (wcol c h d)))
    (fx : ∀ c i, ∃ r : ℝ, xA m c i = (r : EReal)) (fq : ∀ c i, ∃ r : ℝ, wqA m c i = (r : EReal))
    (fk : ∀ c i, ∃ r : ℝ, wkA m c i = (r : EReal)) : outC m = Ref.rOut X Q O K V := by
  funext j
  obtain ⟨b, i, n, rfl⟩ : ∃ (b : Fin 2) (i : Fin 128) (n : Fin 512), j = ix3 b i n := ⟨j 0, j 1, j 2, by
    funext a
    match a with
    | 0 => rfl
    | 1 => rfl
    | 2 => rfl⟩
  rw [outC_at]
  unfold Ref.rOut
  rw [Ref.out_at, Fin.sum_univ_tiles 4 512 rfl]
  have part_eq : ∀ c : Fin 4, part m c b i n = ∑ t : Fin 512,
      Ref.ro (Ref.rq X V) (Ref.ra (Ref.rm (Ref.rs (Ref.rq X Q) (Ref.rq X K))))
        (Ref.rl (Ref.ra (Ref.rm (Ref.rs (Ref.rq X Q) (Ref.rq X K))))
          (Ref.rp (Ref.rs (Ref.rq X Q) (Ref.rq X K)) (Ref.rm (Ref.rs (Ref.rq X Q) (Ref.rq X K)))))
        (Ref.rp (Ref.rs (Ref.rq X Q) (Ref.rq X K)) (Ref.rm (Ref.rs (Ref.rq X Q) (Ref.rq X K))))
        (ix3 b i ⟨c.val * 512 + t.val, by omega⟩) * O (ix2 ⟨c.val * 512 + t.val, by omega⟩ n) := fun c => by
    unfold part
    refine Finset.sum_congr rfl fun t _ => ?_
    have e1 : t = hcol ⟨t.val / 64, by omega⟩ ⟨t.val % 64, by omega⟩ := Fin.ext (by simp only [hcol]; omega)
    have e2 : (⟨c.val * 512 + t.val, by omega⟩ : Fin 2048) = wcol c ⟨t.val / 64, by omega⟩ ⟨t.val % 64, by omega⟩ :=
      Fin.ext (by simp only [wcol]; omega)
    have ho' := ho c ⟨t.val / 64, by omega⟩ ⟨t.val % 64, by omega⟩ n
    rw [← e1] at ho'
    rw [e2, ho']
    exact congrArg (· * _) (head_eq X Q K V (xA m c) (wqA m c) (wkA m c) (wvA m c) c (hx c) (hq c) (hk c) (hv c) (fx c) (fq c) (fk c)
      b i ⟨t.val / 64, by omega⟩ ⟨t.val % 64, by omega⟩).symm
  refine Eq.trans ?_ (Finset.sum_congr rfl fun c _ => part_eq c)
  rw [Fin.sum_univ_four, add_assoc, add_assoc, ← add_assoc]

end Cert.Ring
-- ==== Proof.Algebraic.lean ====
/-
# The value claim

The precondition read element by element, and the two runs put together.
-/
module

public import proofs.«01_k».proof.Defs
public import proofs.«01_k».proof.Proof.Gen.Kernel
public import proofs.«01_k».proof.Proof.Gen.Pre_finite_KernelIdeal
public import Idealize.ShloMosaic.Lib.ReduceAll
public import proofs.«01_k».proof.Proof.Launch
public import proofs.«01_k».proof.Proof.Value

@[expose] public section

set_option maxRecDepth 16384

noncomputable section

namespace Cert.Ring

open Idealize.ShloMosaic Idealize.ShloMosaic.TcCoe Idealize.SL.Sem

/-- An element that passes the printed comparison with plus infinity is a real. -/
theorem real_of_cmp {a : EReal} (h : Ideal.cmp .olt (max a (-a)) (Ideal.ofBits .f32 0x7F800000#32) = 1#1) : ∃ r : ℝ, a = (r : EReal) := by
  rw [ofBits_pos_inf] at h
  refine real_of_abs_lt ?_
  by_contra hn
  have e : Ideal.cmp .olt (max a (-a)) (⊤ : EReal) = BitVec.ofBool (decide (max a (-a) < ⊤)) := rfl
  rw [e, decide_eq_false hn] at h
  exact absurd h (by decide)

/-- A result of rank zero has one index. -/
instance : Subsingleton Cert.Pre_finite_KernelIdeal.S_.Idx := ⟨fun _ _ => funext fun a => a.elim0⟩

/-- Two one-bit words whose conjunction is one are both one. -/
theorem andi_one {a b : BitVec 1} (h : IntOp.andi a b = 1#1) : a = 1#1 ∧ b = 1#1 := by
  revert a b
  decide

/-- The precondition, read: the input rows and the two score weights are real everywhere. -/
theorem finite_read (x : FVec Ideal Cert.Pre_finite_KernelIdeal.S2x128x512 .f32) (q o k v : FVec Ideal Cert.Pre_finite_KernelIdeal.S512x512 .f32)
    (h : Cert.Pre_finite_KernelIdeal.fn (F := Ideal) x q o k v = fun _ => 1#1) :
    (∀ i, ∃ r : ℝ, x i = (r : EReal)) ∧ (∀ i, ∃ r : ℝ, q i = (r : EReal)) ∧ (∀ i, ∃ r : ℝ, k i = (r : EReal)) := by
  have h0 := congrFun h (fun a => a.elim0)
  obtain ⟨h12, h3⟩ := andi_one (show IntOp.andi _ _ = 1#1 from h0)
  obtain ⟨h1, h2⟩ := andi_one (show IntOp.andi _ _ = 1#1 from h12)
  exact ⟨fun i => real_of_cmp (Host.reduce_andi_all _ _ _ _ _ h1 i), fun i => real_of_cmp (Host.reduce_andi_all _ _ _ _ _ h2 i),
    fun i => real_of_cmp (Host.reduce_andi_all _ _ _ _ _ h3 i)⟩

/-- A device's block of columns, at an index. -/
theorem cols_at (c : Fin 4) (W : (⟨2, ![512, 2048]⟩ : Shape).Idx → EReal) (l : Fin 512) (h : Fin 8) (d : Fin 64) :
    Layout.block ⟨2, ![512, 512]⟩ ⟨2, ![512, 2048]⟩ 1 4 c W (by decide) (ix2 l (hcol h d)) = W (ix2 l (wcol c h d)) := by
  rw [Layout.block_apply]
  refine congrArg W (funext fun a => ?_)
  match a with
  | 0 => rfl
  | 1 => exact Fin.ext (show c.val * 512 + (64 * h.val + d.val) = 512 * c.val + 64 * h.val + d.val by omega)

/-- A device's block of rows, at an index. -/
theorem rows_at (c : Fin 4) (W : (⟨2, ![2048, 512]⟩ : Shape).Idx → EReal) (h : Fin 8) (d : Fin 64) (n : Fin 512) :
    Layout.block ⟨2, ![512, 512]⟩ ⟨2, ![2048, 512]⟩ 0 4 c W (by decide) (ix2 (hcol h d) n) = W (ix2 (wcol c h d) n) := by
  rw [Layout.block_apply]
  refine congrArg W (funext fun a => ?_)
  match a with
  | 0 => exact Fin.ext (show c.val * 512 + (64 * h.val + d.val) = 512 * c.val + 64 * h.val + d.val by omega)
  | 1 => rfl

/-- Over the extended reals, on finite rows and score weights, every device of the kernel ends holding the reference's result. -/
theorem algebraic : Cert.algebraic_KernelIdeal_ReferenceIdeal_pre_finite_KernelIdeal := by
  intro m g m' g' hpre hm
  have fin := fun c => finite_read _ _ _ _ _ (hpre c)
  have val := value_eq m _ _ _ _ _
    (fun c b i l => congrFun (hm c).1 (ix3 b i l))
    (fun c l h d => (congrFun (hm c).2.1 (ix2 l (hcol h d))).trans (cols_at c _ l h d))
    (fun c h d n => (congrFun (hm c).2.2.1 (ix2 (hcol h d) n)).trans (rows_at c _ h d n))
    (fun c l h d => (congrFun (hm c).2.2.2.1 (ix2 l (hcol h d))).trans (cols_at c _ l h d))
    (fun c l h d => (congrFun (hm c).2.2.2.2 (ix2 l (hcol h d))).trans (cols_at c _ l h d))
    (fun c => (fin c).1) (fun c => (fin c).2.1) (fun c => (fin c).2.2)
  refine ⟨Cert.ReferenceIdeal.Value.res_main_v35 m' 0, ?_, ?_⟩
  · refine (θ_run Cert.KernelIdeal.defs _ _).mono (fun r h c => ?_) (run_main (F := Ideal) m g)
    refine ⟨((h.1 c).2.trans val).trans (Ref.res_eq m' 0).symm, (h.1 c).1⟩
  · exact (θ_run Cert.ReferenceIdeal.defs _ _).mono (fun r h => ⟨(h 0).1, (h 0).2⟩)
      (Cert.ReferenceIdeal.Value.run (F := Ideal) m' g')

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The whole claim: the frames, the idealization, which rewrites nothing, and the value. -/
theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.Ring.frame_kernel, Cert.Ring.frame_kernelIdeal, Cert.Ring.frame_kernelIdeal_finite,
  Cert.Ring.frame_referenceIdeal, Cert.Ring.frame_referenceIdeal_finite, trivial, Cert.Ring.algebraic⟩

end Cert.Proof

end
